-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S128x2048 : Shape := ⟨2, ![128, 2048]⟩
abbrev S16x128x128 : Shape := ⟨3, ![16, 128, 128]⟩
abbrev S4x512x2048 : Shape := ⟨3, ![4, 512, 2048]⟩
abbrev S4x128x512 : Shape := ⟨3, ![4, 128, 512]⟩
abbrev S16 : Shape := ⟨1, ![16]⟩
abbrev S4 : Shape := ⟨1, ![4]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S128x128 : Shape := ⟨2, ![128, 128]⟩
abbrev S1x128x128 : Shape := ⟨3, ![1, 128, 128]⟩
abbrev S1x128x512 : Shape := ⟨3, ![1, 128, 512]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x2048, .f32⟩
  | .local _ .vmem, ⟨0, _⟩ => ⟨S2048x128, .f32⟩
  | .local _ .vmem, ⟨1, _⟩ => ⟨S128x2048, .f32⟩
  | .local _ .vmem, ⟨2, _⟩ => ⟨S16x128x128, .bf16⟩
  | .local _ .vmem, ⟨3, _⟩ => ⟨S16x128x128, .bf16⟩
  | .local _ .vmem, ⟨4, _⟩ => ⟨S4x512x2048, .f32⟩
  | .local _ .vmem, ⟨5, _⟩ => ⟨S4x128x512, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v4 : BitVec 32 := Scalar.subi v3 c0_i32
  let c4_i32_0 : BitVec 32 := 4#32
  let v5 : BitVec 32 := Scalar.addi v4 c4_i32_0
  let c4_i32_1 : BitVec 32 := 4#32
  let v6 : BitVec 32 := Scalar.remsi v5 c4_i32_1
  let c512_i32 : BitVec 32 := 512#32
  let v7 : BitVec 32 := Scalar.muli v6 c512_i32
  let c0_i32_6 : BitVec 32 := 0#32
  ![v7.toNat, 0]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v41 : BitVec 32 := Scalar.addi v2 c1_i32_32
  let c16_i32_33 : BitVec 32 := 16#32
  let v42 : BitVec 32 := Scalar.remsi v41 c16_i32_33
  let c1_i32_35 : BitVec 32 := 1#32
  let v43 : BitVec 32 := Scalar.muli v42 c1_i32_35
  let v44 : BitVec 32 := Scalar.addi c0_i32_36 v43
  v44.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_37 : BitVec 32 := 2#32
  let v45 : BitVec 32 := Scalar.addi v2 c2_i32_37
  let c16_i32_38 : BitVec 32 := 16#32
  let v46 : BitVec 32 := Scalar.remsi v45 c16_i32_38
  let c1_i32_40 : BitVec 32 := 1#32
  let v47 : BitVec 32 := Scalar.muli v46 c1_i32_40
  let v48 : BitVec 32 := Scalar.addi c0_i32_41 v47
  v48.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_42 : BitVec 32 := 3#32
  let v49 : BitVec 32 := Scalar.addi v2 c3_i32_42
  let c16_i32_43 : BitVec 32 := 16#32
  let v50 : BitVec 32 := Scalar.remsi v49 c16_i32_43
  let c1_i32_45 : BitVec 32 := 1#32
  let v51 : BitVec 32 := Scalar.muli v50 c1_i32_45
  let v52 : BitVec 32 := Scalar.addi c0_i32_46 v51
  v52.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_47 : BitVec 32 := 4#32
  let v53 : BitVec 32 := Scalar.addi v2 c4_i32_47
  let c16_i32_48 : BitVec 32 := 16#32
  let v54 : BitVec 32 := Scalar.remsi v53 c16_i32_48
  let c1_i32_50 : BitVec 32 := 1#32
  let v55 : BitVec 32 := Scalar.muli v54 c1_i32_50
  let v56 : BitVec 32 := Scalar.addi c0_i32_51 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v57 : BitVec 32 := Scalar.addi v2 c5_i32
  let c16_i32_52 : BitVec 32 := 16#32
  let v58 : BitVec 32 := Scalar.remsi v57 c16_i32_52
  let c1_i32_54 : BitVec 32 := 1#32
  let v59 : BitVec 32 := Scalar.muli v58 c1_i32_54
  let v60 : BitVec 32 := Scalar.addi c0_i32_55 v59
  v60.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v61 : BitVec 32 := Scalar.addi v2 c6_i32
  let c16_i32_56 : BitVec 32 := 16#32
  let v62 : BitVec 32 := Scalar.remsi v61 c16_i32_56
  let c1_i32_58 : BitVec 32 := 1#32
  let v63 : BitVec 32 := Scalar.muli v62 c1_i32_58
  let v64 : BitVec 32 := Scalar.addi c0_i32_59 v63
  v64.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v65 : BitVec 32 := Scalar.addi v2 c7_i32
  let c16_i32_60 : BitVec 32 := 16#32
  let v66 : BitVec 32 := Scalar.remsi v65 c16_i32_60
  let c1_i32_62 : BitVec 32 := 1#32
  let v67 : BitVec 32 := Scalar.muli v66 c1_i32_62
  let v68 : BitVec 32 := Scalar.addi c0_i32_63 v67
  v68.toNat
def k0_dev8 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v69 : BitVec 32 := Scalar.addi v2 c8_i32
  let c16_i32_64 : BitVec 32 := 16#32
  let v70 : BitVec 32 := Scalar.remsi v69 c16_i32_64
  let c1_i32_66 : BitVec 32 := 1#32
  let v71 : BitVec 32 := Scalar.muli v70 c1_i32_66
  let v72 : BitVec 32 := Scalar.addi c0_i32_67 v71
  v72.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v73 : BitVec 32 := Scalar.addi v2 c9_i32
  let c16_i32_68 : BitVec 32 := 16#32
  let v74 : BitVec 32 := Scalar.remsi v73 c16_i32_68
  let c1_i32_70 : BitVec 32 := 1#32
  let v75 : BitVec 32 := Scalar.muli v74 c1_i32_70
  let v76 : BitVec 32 := Scalar.addi c0_i32_71 v75
  v76.toNat
def k0_dev10 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v77 : BitVec 32 := Scalar.addi v2 c10_i32
  let c16_i32_72 : BitVec 32 := 16#32
  let v78 : BitVec 32 := Scalar.remsi v77 c16_i32_72
  let c1_i32_74 : BitVec 32 := 1#32
  let v79 : BitVec 32 := Scalar.muli v78 c1_i32_74
  let v80 : BitVec 32 := Scalar.addi c0_i32_75 v79
  v80.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v81 : BitVec 32 := Scalar.addi v2 c11_i32
  let c16_i32_76 : BitVec 32 := 16#32
  let v82 : BitVec 32 := Scalar.remsi v81 c16_i32_76
  let c1_i32_78 : BitVec 32 := 1#32
  let v83 : BitVec 32 := Scalar.muli v82 c1_i32_78
  let v84 : BitVec 32 := Scalar.addi c0_i32_79 v83
  v84.toNat
def k0_dev12 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v85 : BitVec 32 := Scalar.addi v2 c12_i32
  let c16_i32_80 : BitVec 32 := 16#32
  let v86 : BitVec 32 := Scalar.remsi v85 c16_i32_80
  let c1_i32_82 : BitVec 32 := 1#32
  let v87 : BitVec 32 := Scalar.muli v86 c1_i32_82
  let v88 : BitVec 32 := Scalar.addi c0_i32_83 v87
  v88.toNat
def k0_dev13 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v89 : BitVec 32 := Scalar.addi v2 c13_i32
  let c16_i32_84 : BitVec 32 := 16#32
  let v90 : BitVec 32 := Scalar.remsi v89 c16_i32_84
  let c1_i32_86 : BitVec 32 := 1#32
  let v91 : BitVec 32 := Scalar.muli v90 c1_i32_86
  let v92 : BitVec 32 := Scalar.addi c0_i32_87 v91
  v92.toNat
def k0_dev14 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v93 : BitVec 32 := Scalar.addi v2 c14_i32
  let c16_i32_88 : BitVec 32 := 16#32
  let v94 : BitVec 32 := Scalar.remsi v93 c16_i32_88
  let c1_i32_90 : BitVec 32 := 1#32
  let v95 : BitVec 32 := Scalar.muli v94 c1_i32_90
  let v96 : BitVec 32 := Scalar.addi c0_i32_91 v95
  v96.toNat
def k0_dev15 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v97 : BitVec 32 := Scalar.addi v2 c15_i32
  let c16_i32_92 : BitVec 32 := 16#32
  let v98 : BitVec 32 := Scalar.remsi v97 c16_i32_92
  let c1_i32_94 : BitVec 32 := 1#32
  let v99 : BitVec 32 := Scalar.muli v98 c1_i32_94
  let v100 : BitVec 32 := Scalar.addi c0_i32_95 v99
  v100.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v197 : Index := Scalar.indexCast v2
  let c0_145 : Index := 0#32
  let c0_146 : Index := 0#32
  ![v197.toNat, 0, 0]
def k0_off3 (d0 : Dev nD) (c1_i32_150 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : BitVec 32 := Scalar.addi v2 c1_i32_150
  let c16_i32_151 : BitVec 32 := 16#32
  let v205 : BitVec 32 := Scalar.remsi v204 c16_i32_151
  ![v205.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_154 : BitVec 32 := 0#32
  let c0_i32_155 : BitVec 32 := 0#32
  ![v2.toNat, 0, 0]
def k0_off6 (d0 : Dev nD) (c1_i32_150 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : BitVec 32 := Scalar.addi v2 c1_i32_150
  let c16_i32_151 : BitVec 32 := 16#32
  let v205 : BitVec 32 := Scalar.remsi v204 c16_i32_151
  let c0_i32_156 : BitVec 32 := 0#32
  let c0_i32_157 : BitVec 32 := 0#32
  ![v205.toNat, 0, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_150 : BitVec 32 := 1#32
  let v204 : BitVec 32 := Scalar.addi v2 c1_i32_150
  let c16_i32_151 : BitVec 32 := 16#32
  let v205 : BitVec 32 := Scalar.remsi v204 c16_i32_151
  let c1_i32_152 : BitVec 32 := 1#32
  let v206 : BitVec 32 := Scalar.muli v205 c1_i32_152
  let v207 : BitVec 32 := Scalar.addi c0_i32_153 v206
  v207.toNat
def k0_dev17 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_158 : BitVec 32 := 2#32
  let v216 : BitVec 32 := Scalar.addi v2 c2_i32_158
  let c16_i32_159 : BitVec 32 := 16#32
  let v217 : BitVec 32 := Scalar.remsi v216 c16_i32_159
  let c1_i32_160 : BitVec 32 := 1#32
  let v218 : BitVec 32 := Scalar.muli v217 c1_i32_160
  let v219 : BitVec 32 := Scalar.addi c0_i32_161 v218
  v219.toNat
def k0_dev18 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_166 : BitVec 32 := 3#32
  let v228 : BitVec 32 := Scalar.addi v2 c3_i32_166
  let c16_i32_167 : BitVec 32 := 16#32
  let v229 : BitVec 32 := Scalar.remsi v228 c16_i32_167
  let c1_i32_168 : BitVec 32 := 1#32
  let v230 : BitVec 32 := Scalar.muli v229 c1_i32_168
  let v231 : BitVec 32 := Scalar.addi c0_i32_169 v230
  v231.toNat
def k0_dev19 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_174 : BitVec 32 := 4#32
  let v240 : BitVec 32 := Scalar.addi v2 c4_i32_174
  let c16_i32_175 : BitVec 32 := 16#32
  let v241 : BitVec 32 := Scalar.remsi v240 c16_i32_175
  let c1_i32_176 : BitVec 32 := 1#32
  let v242 : BitVec 32 := Scalar.muli v241 c1_i32_176
  let v243 : BitVec 32 := Scalar.addi c0_i32_177 v242
  v243.toNat
def k0_dev20 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_182 : BitVec 32 := 5#32
  let v252 : BitVec 32 := Scalar.addi v2 c5_i32_182
  let c16_i32_183 : BitVec 32 := 16#32
  let v253 : BitVec 32 := Scalar.remsi v252 c16_i32_183
  let c1_i32_184 : BitVec 32 := 1#32
  let v254 : BitVec 32 := Scalar.muli v253 c1_i32_184
  let v255 : BitVec 32 := Scalar.addi c0_i32_185 v254
  v255.toNat
def k0_dev21 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_190 : BitVec 32 := 6#32
  let v264 : BitVec 32 := Scalar.addi v2 c6_i32_190
  let c16_i32_191 : BitVec 32 := 16#32
  let v265 : BitVec 32 := Scalar.remsi v264 c16_i32_191
  let c1_i32_192 : BitVec 32 := 1#32
  let v266 : BitVec 32 := Scalar.muli v265 c1_i32_192
  let v267 : BitVec 32 := Scalar.addi c0_i32_193 v266
  v267.toNat
def k0_dev22 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_198 : BitVec 32 := 7#32
  let v276 : BitVec 32 := Scalar.addi v2 c7_i32_198
  let c16_i32_199 : BitVec 32 := 16#32
  let v277 : BitVec 32 := Scalar.remsi v276 c16_i32_199
  let c1_i32_200 : BitVec 32 := 1#32
  let v278 : BitVec 32 := Scalar.muli v277 c1_i32_200
  let v279 : BitVec 32 := Scalar.addi c0_i32_201 v278
  v279.toNat
def k0_dev23 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_206 : BitVec 32 := 8#32
  let v288 : BitVec 32 := Scalar.addi v2 c8_i32_206
  let c16_i32_207 : BitVec 32 := 16#32
  let v289 : BitVec 32 := Scalar.remsi v288 c16_i32_207
  let c1_i32_208 : BitVec 32 := 1#32
  let v290 : BitVec 32 := Scalar.muli v289 c1_i32_208
  let v291 : BitVec 32 := Scalar.addi c0_i32_209 v290
  v291.toNat
def k0_dev24 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_214 : BitVec 32 := 9#32
  let v300 : BitVec 32 := Scalar.addi v2 c9_i32_214
  let c16_i32_215 : BitVec 32 := 16#32
  let v301 : BitVec 32 := Scalar.remsi v300 c16_i32_215
  let c1_i32_216 : BitVec 32 := 1#32
  let v302 : BitVec 32 := Scalar.muli v301 c1_i32_216
  let v303 : BitVec 32 := Scalar.addi c0_i32_217 v302
  v303.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v312 : BitVec 32 := Scalar.addi v2 c10_i32_222
  let c16_i32_223 : BitVec 32 := 16#32
  let v313 : BitVec 32 := Scalar.remsi v312 c16_i32_223
  let c1_i32_224 : BitVec 32 := 1#32
  let v314 : BitVec 32 := Scalar.muli v313 c1_i32_224
  let v315 : BitVec 32 := Scalar.addi c0_i32_225 v314
  v315.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_230 : BitVec 32 := 11#32
  let v324 : BitVec 32 := Scalar.addi v2 c11_i32_230
  let c16_i32_231 : BitVec 32 := 16#32
  let v325 : BitVec 32 := Scalar.remsi v324 c16_i32_231
  let c1_i32_232 : BitVec 32 := 1#32
  let v326 : BitVec 32 := Scalar.muli v325 c1_i32_232
  let v327 : BitVec 32 := Scalar.addi c0_i32_233 v326
  v327.toNat
def k0_dev27 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_238 : BitVec 32 := 12#32
  let v336 : BitVec 32 := Scalar.addi v2 c12_i32_238
  let c16_i32_239 : BitVec 32 := 16#32
  let v337 : BitVec 32 := Scalar.remsi v336 c16_i32_239
  let c1_i32_240 : BitVec 32 := 1#32
  let v338 : BitVec 32 := Scalar.muli v337 c1_i32_240
  let v339 : BitVec 32 := Scalar.addi c0_i32_241 v338
  v339.toNat
def k0_dev28 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_246 : BitVec 32 := 13#32
  let v348 : BitVec 32 := Scalar.addi v2 c13_i32_246
  let c16_i32_247 : BitVec 32 := 16#32
  let v349 : BitVec 32 := Scalar.remsi v348 c16_i32_247
  let c1_i32_248 : BitVec 32 := 1#32
  let v350 : BitVec 32 := Scalar.muli v349 c1_i32_248
  let v351 : BitVec 32 := Scalar.addi c0_i32_249 v350
  v351.toNat
def k0_dev29 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_254 : BitVec 32 := 14#32
  let v360 : BitVec 32 := Scalar.addi v2 c14_i32_254
  let c16_i32_255 : BitVec 32 := 16#32
  let v361 : BitVec 32 := Scalar.remsi v360 c16_i32_255
  let c1_i32_256 : BitVec 32 := 1#32
  let v362 : BitVec 32 := Scalar.muli v361 c1_i32_256
  let v363 : BitVec 32 := Scalar.addi c0_i32_257 v362
  v363.toNat
def k0_dev30 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_262 : BitVec 32 := 15#32
  let v372 : BitVec 32 := Scalar.addi v2 c15_i32_262
  let c16_i32_263 : BitVec 32 := 16#32
  let v373 : BitVec 32 := Scalar.remsi v372 c16_i32_263
  let c1_i32_264 : BitVec 32 := 1#32
  let v374 : BitVec 32 := Scalar.muli v373 c1_i32_264
  let v375 : BitVec 32 := Scalar.addi c0_i32_265 v374
  v375.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_273 : BitVec 32 := 4#32
  let v388 : BitVec 32 := Scalar.muli v387 c4_i32_273
  let c0_i32_274 : BitVec 32 := 0#32
  let v389 : BitVec 32 := Scalar.addi v388 c0_i32_274
  let v390 : BitVec 1 := Scalar.cmpi .ne v389 v2
  let v391 : BitVec 32 := Scalar.extui v390
  let c0_i32_275 : BitVec 32 := 0#32
  let v392 : BitVec 1 := Scalar.cmpi .ne v391 c0_i32_275
  v392

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_273 : BitVec 32 := 4#32
  let v388 : BitVec 32 := Scalar.muli v387 c4_i32_273
  let c0_i32_274 : BitVec 32 := 0#32
  let v389 : BitVec 32 := Scalar.addi v388 c0_i32_274
  ![v389.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_273 : BitVec 32 := 4#32
  let v388 : BitVec 32 := Scalar.muli v387 c4_i32_273
  let c0_i32_274 : BitVec 32 := 0#32
  let v389 : BitVec 32 := Scalar.addi v388 c0_i32_274
  let c0_i32_568 : BitVec 32 := 0#32
  let c0_i32_569 : BitVec 32 := 0#32
  ![v389.toNat, 0, 0]
def k0_off9 (d0 : Dev nD) (c0_i32_270 : BitVec 32) (c0_i32_274 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_273 : BitVec 32 := 4#32
  let v388 : BitVec 32 := Scalar.muli v387 c4_i32_273
  let v389 : BitVec 32 := Scalar.addi v388 c0_i32_274
  let v393 : Index := Scalar.indexCast v389
  let c0_276 : Index := 0#32
  let c0_277 : Index := 0#32
  ![v393.toNat, 0, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_281 : BitVec 32 := 4#32
  let v399 : BitVec 32 := Scalar.muli v387 c4_i32_281
  let c1_i32_282 : BitVec 32 := 1#32
  let v400 : BitVec 32 := Scalar.addi v399 c1_i32_282
  let v401 : BitVec 1 := Scalar.cmpi .ne v400 v2
  let v402 : BitVec 32 := Scalar.extui v401
  let c0_i32_283 : BitVec 32 := 0#32
  let v403 : BitVec 1 := Scalar.cmpi .ne v402 c0_i32_283
  v403

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_281 : BitVec 32 := 4#32
  let v399 : BitVec 32 := Scalar.muli v387 c4_i32_281
  let c1_i32_282 : BitVec 32 := 1#32
  let v400 : BitVec 32 := Scalar.addi v399 c1_i32_282
  ![v400.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_281 : BitVec 32 := 4#32
  let v399 : BitVec 32 := Scalar.muli v387 c4_i32_281
  let c1_i32_282 : BitVec 32 := 1#32
  let v400 : BitVec 32 := Scalar.addi v399 c1_i32_282
  let c0_i32_568 : BitVec 32 := 0#32
  let c0_i32_569 : BitVec 32 := 0#32
  ![v400.toNat, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_289 : BitVec 32 := 4#32
  let v410 : BitVec 32 := Scalar.muli v387 c4_i32_289
  let c2_i32_290 : BitVec 32 := 2#32
  let v411 : BitVec 32 := Scalar.addi v410 c2_i32_290
  let v412 : BitVec 1 := Scalar.cmpi .ne v411 v2
  let v413 : BitVec 32 := Scalar.extui v412
  let c0_i32_291 : BitVec 32 := 0#32
  let v414 : BitVec 1 := Scalar.cmpi .ne v413 c0_i32_291
  v414

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_289 : BitVec 32 := 4#32
  let v410 : BitVec 32 := Scalar.muli v387 c4_i32_289
  let c2_i32_290 : BitVec 32 := 2#32
  let v411 : BitVec 32 := Scalar.addi v410 c2_i32_290
  ![v411.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_289 : BitVec 32 := 4#32
  let v410 : BitVec 32 := Scalar.muli v387 c4_i32_289
  let c2_i32_290 : BitVec 32 := 2#32
  let v411 : BitVec 32 := Scalar.addi v410 c2_i32_290
  let c0_i32_568 : BitVec 32 := 0#32
  let c0_i32_569 : BitVec 32 := 0#32
  ![v411.toNat, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_297 : BitVec 32 := 4#32
  let v421 : BitVec 32 := Scalar.muli v387 c4_i32_297
  let c3_i32_298 : BitVec 32 := 3#32
  let v422 : BitVec 32 := Scalar.addi v421 c3_i32_298
  let v423 : BitVec 1 := Scalar.cmpi .ne v422 v2
  let v424 : BitVec 32 := Scalar.extui v423
  let c0_i32_299 : BitVec 32 := 0#32
  let v425 : BitVec 1 := Scalar.cmpi .ne v424 c0_i32_299
  v425

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_297 : BitVec 32 := 4#32
  let v421 : BitVec 32 := Scalar.muli v387 c4_i32_297
  let c3_i32_298 : BitVec 32 := 3#32
  let v422 : BitVec 32 := Scalar.addi v421 c3_i32_298
  ![v422.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_270 : BitVec 32 := 0#32
  let v385 : BitVec 32 := Scalar.subi v3 c0_i32_270
  let c4_i32_271 : BitVec 32 := 4#32
  let v386 : BitVec 32 := Scalar.addi v385 c4_i32_271
  let c4_i32_272 : BitVec 32 := 4#32
  let v387 : BitVec 32 := Scalar.remsi v386 c4_i32_272
  let c4_i32_297 : BitVec 32 := 4#32
  let v421 : BitVec 32 := Scalar.muli v387 c4_i32_297
  let c3_i32_298 : BitVec 32 := 3#32
  let v422 : BitVec 32 := Scalar.addi v421 c3_i32_298
  let c0_i32_568 : BitVec 32 := 0#32
  let c0_i32_569 : BitVec 32 := 0#32
  ![v422.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_320 : BitVec 32 := 4#32
  let v447 : BitVec 32 := Scalar.muli v446 c4_i32_320
  let c0_i32_321 : BitVec 32 := 0#32
  let v448 : BitVec 32 := Scalar.addi v447 c0_i32_321
  let v449 : BitVec 1 := Scalar.cmpi .ne v448 v2
  let v450 : BitVec 32 := Scalar.extui v449
  let c0_i32_322 : BitVec 32 := 0#32
  let v451 : BitVec 1 := Scalar.cmpi .ne v450 c0_i32_322
  v451

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_320 : BitVec 32 := 4#32
  let v447 : BitVec 32 := Scalar.muli v446 c4_i32_320
  let c0_i32_321 : BitVec 32 := 0#32
  let v448 : BitVec 32 := Scalar.addi v447 c0_i32_321
  ![v448.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_320 : BitVec 32 := 4#32
  let v447 : BitVec 32 := Scalar.muli v446 c4_i32_320
  let c0_i32_321 : BitVec 32 := 0#32
  let v448 : BitVec 32 := Scalar.addi v447 c0_i32_321
  let c0_i32_568 : BitVec 32 := 0#32
  let c0_i32_569 : BitVec 32 := 0#32
  ![v448.toNat, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_328 : BitVec 32 := 4#32
  let v458 : BitVec 32 := Scalar.muli v446 c4_i32_328
  let c1_i32_329 : BitVec 32 := 1#32
  let v459 : BitVec 32 := Scalar.addi v458 c1_i32_329
  let v460 : BitVec 1 := Scalar.cmpi .ne v459 v2
  let v461 : BitVec 32 := Scalar.extui v460
  let c0_i32_330 : BitVec 32 := 0#32
  let v462 : BitVec 1 := Scalar.cmpi .ne v461 c0_i32_330
  v462

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_328 : BitVec 32 := 4#32
  let v458 : BitVec 32 := Scalar.muli v446 c4_i32_328
  let c1_i32_329 : BitVec 32 := 1#32
  let v459 : BitVec 32 := Scalar.addi v458 c1_i32_329
  ![v459.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_328 : BitVec 32 := 4#32
  let v458 : BitVec 32 := Scalar.muli v446 c4_i32_328
  let c1_i32_329 : BitVec 32 := 1#32
  let v459 : BitVec 32 := Scalar.addi v458 c1_i32_329
  let c0_i32_568 : BitVec 32 := 0#32
  let c0_i32_569 : BitVec 32 := 0#32
  ![v459.toNat, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_336 : BitVec 32 := 4#32
  let v469 : BitVec 32 := Scalar.muli v446 c4_i32_336
  let c2_i32_337 : BitVec 32 := 2#32
  let v470 : BitVec 32 := Scalar.addi v469 c2_i32_337
  let v471 : BitVec 1 := Scalar.cmpi .ne v470 v2
  let v472 : BitVec 32 := Scalar.extui v471
  let c0_i32_338 : BitVec 32 := 0#32
  let v473 : BitVec 1 := Scalar.cmpi .ne v472 c0_i32_338
  v473

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_336 : BitVec 32 := 4#32
  let v469 : BitVec 32 := Scalar.muli v446 c4_i32_336
  let c2_i32_337 : BitVec 32 := 2#32
  let v470 : BitVec 32 := Scalar.addi v469 c2_i32_337
  ![v470.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_336 : BitVec 32 := 4#32
  let v469 : BitVec 32 := Scalar.muli v446 c4_i32_336
  let c2_i32_337 : BitVec 32 := 2#32
  let v470 : BitVec 32 := Scalar.addi v469 c2_i32_337
  let c0_i32_568 : BitVec 32 := 0#32
  let c0_i32_569 : BitVec 32 := 0#32
  ![v470.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_344 : BitVec 32 := 4#32
  let v480 : BitVec 32 := Scalar.muli v446 c4_i32_344
  let c3_i32_345 : BitVec 32 := 3#32
  let v481 : BitVec 32 := Scalar.addi v480 c3_i32_345
  let v482 : BitVec 1 := Scalar.cmpi .ne v481 v2
  let v483 : BitVec 32 := Scalar.extui v482
  let c0_i32_346 : BitVec 32 := 0#32
  let v484 : BitVec 1 := Scalar.cmpi .ne v483 c0_i32_346
  v484

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_344 : BitVec 32 := 4#32
  let v480 : BitVec 32 := Scalar.muli v446 c4_i32_344
  let c3_i32_345 : BitVec 32 := 3#32
  let v481 : BitVec 32 := Scalar.addi v480 c3_i32_345
  ![v481.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v444 : BitVec 32 := Scalar.subi v3 c1_i32_317
  let c4_i32_318 : BitVec 32 := 4#32
  let v445 : BitVec 32 := Scalar.addi v444 c4_i32_318
  let c4_i32_319 : BitVec 32 := 4#32
  let v446 : BitVec 32 := Scalar.remsi v445 c4_i32_319
  let c4_i32_344 : BitVec 32 := 4#32
  let v480 : BitVec 32 := Scalar.muli v446 c4_i32_344
  let c3_i32_345 : BitVec 32 := 3#32
  let v481 : BitVec 32 := Scalar.addi v480 c3_i32_345
  let c0_i32_568 : BitVec 32 := 0#32
  let c0_i32_569 : BitVec 32 := 0#32
  ![v481.toNat, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_367 : BitVec 32 := 4#32
  let v506 : BitVec 32 := Scalar.muli v505 c4_i32_367
  let c0_i32_368 : BitVec 32 := 0#32
  let v507 : BitVec 32 := Scalar.addi v506 c0_i32_368
  let v508 : BitVec 1 := Scalar.cmpi .ne v507 v2
  let v509 : BitVec 32 := Scalar.extui v508
  let c0_i32_369 : BitVec 32 := 0#32
  let v510 : BitVec 1 := Scalar.cmpi .ne v509 c0_i32_369
  v510

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_367 : BitVec 32 := 4#32
  let v506 : BitVec 32 := Scalar.muli v505 c4_i32_367
  let c0_i32_368 : BitVec 32 := 0#32
  let v507 : BitVec 32 := Scalar.addi v506 c0_i32_368
  ![v507.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_367 : BitVec 32 := 4#32
  let v506 : BitVec 32 := Scalar.muli v505 c4_i32_367
  let c0_i32_368 : BitVec 32 := 0#32
  let v507 : BitVec 32 := Scalar.addi v506 c0_i32_368
  let c0_i32_568 : BitVec 32 := 0#32
  let c0_i32_569 : BitVec 32 := 0#32
  ![v507.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_375 : BitVec 32 := 4#32
  let v517 : BitVec 32 := Scalar.muli v505 c4_i32_375
  let c1_i32_376 : BitVec 32 := 1#32
  let v518 : BitVec 32 := Scalar.addi v517 c1_i32_376
  let v519 : BitVec 1 := Scalar.cmpi .ne v518 v2
  let v520 : BitVec 32 := Scalar.extui v519
  let c0_i32_377 : BitVec 32 := 0#32
  let v521 : BitVec 1 := Scalar.cmpi .ne v520 c0_i32_377
  v521

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_375 : BitVec 32 := 4#32
  let v517 : BitVec 32 := Scalar.muli v505 c4_i32_375
  let c1_i32_376 : BitVec 32 := 1#32
  let v518 : BitVec 32 := Scalar.addi v517 c1_i32_376
  ![v518.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_375 : BitVec 32 := 4#32
  let v517 : BitVec 32 := Scalar.muli v505 c4_i32_375
  let c1_i32_376 : BitVec 32 := 1#32
  let v518 : BitVec 32 := Scalar.addi v517 c1_i32_376
  let c0_i32_568 : BitVec 32 := 0#32
  let c0_i32_569 : BitVec 32 := 0#32
  ![v518.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_383 : BitVec 32 := 4#32
  let v528 : BitVec 32 := Scalar.muli v505 c4_i32_383
  let c2_i32_384 : BitVec 32 := 2#32
  let v529 : BitVec 32 := Scalar.addi v528 c2_i32_384
  let v530 : BitVec 1 := Scalar.cmpi .ne v529 v2
  let v531 : BitVec 32 := Scalar.extui v530
  let c0_i32_385 : BitVec 32 := 0#32
  let v532 : BitVec 1 := Scalar.cmpi .ne v531 c0_i32_385
  v532

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_383 : BitVec 32 := 4#32
  let v528 : BitVec 32 := Scalar.muli v505 c4_i32_383
  let c2_i32_384 : BitVec 32 := 2#32
  let v529 : BitVec 32 := Scalar.addi v528 c2_i32_384
  ![v529.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_383 : BitVec 32 := 4#32
  let v528 : BitVec 32 := Scalar.muli v505 c4_i32_383
  let c2_i32_384 : BitVec 32 := 2#32
  let v529 : BitVec 32 := Scalar.addi v528 c2_i32_384
  let c0_i32_568 : BitVec 32 := 0#32
  let c0_i32_569 : BitVec 32 := 0#32
  ![v529.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_391 : BitVec 32 := 4#32
  let v539 : BitVec 32 := Scalar.muli v505 c4_i32_391
  let c3_i32_392 : BitVec 32 := 3#32
  let v540 : BitVec 32 := Scalar.addi v539 c3_i32_392
  let v541 : BitVec 1 := Scalar.cmpi .ne v540 v2
  let v542 : BitVec 32 := Scalar.extui v541
  let c0_i32_393 : BitVec 32 := 0#32
  let v543 : BitVec 1 := Scalar.cmpi .ne v542 c0_i32_393
  v543

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_391 : BitVec 32 := 4#32
  let v539 : BitVec 32 := Scalar.muli v505 c4_i32_391
  let c3_i32_392 : BitVec 32 := 3#32
  let v540 : BitVec 32 := Scalar.addi v539 c3_i32_392
  ![v540.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_364 : BitVec 32 := 2#32
  let v503 : BitVec 32 := Scalar.subi v3 c2_i32_364
  let c4_i32_365 : BitVec 32 := 4#32
  let v504 : BitVec 32 := Scalar.addi v503 c4_i32_365
  let c4_i32_366 : BitVec 32 := 4#32
  let v505 : BitVec 32 := Scalar.remsi v504 c4_i32_366
  let c4_i32_391 : BitVec 32 := 4#32
  let v539 : BitVec 32 := Scalar.muli v505 c4_i32_391
  let c3_i32_392 : BitVec 32 := 3#32
  let v540 : BitVec 32 := Scalar.addi v539 c3_i32_392
  let c0_i32_568 : BitVec 32 := 0#32
  let c0_i32_569 : BitVec 32 := 0#32
  ![v540.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_414 : BitVec 32 := 4#32
  let v565 : BitVec 32 := Scalar.muli v564 c4_i32_414
  let c0_i32_415 : BitVec 32 := 0#32
  let v566 : BitVec 32 := Scalar.addi v565 c0_i32_415
  let v567 : BitVec 1 := Scalar.cmpi .ne v566 v2
  let v568 : BitVec 32 := Scalar.extui v567
  let c0_i32_416 : BitVec 32 := 0#32
  let v569 : BitVec 1 := Scalar.cmpi .ne v568 c0_i32_416
  v569

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_414 : BitVec 32 := 4#32
  let v565 : BitVec 32 := Scalar.muli v564 c4_i32_414
  let c0_i32_415 : BitVec 32 := 0#32
  let v566 : BitVec 32 := Scalar.addi v565 c0_i32_415
  ![v566.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_414 : BitVec 32 := 4#32
  let v565 : BitVec 32 := Scalar.muli v564 c4_i32_414
  let c0_i32_415 : BitVec 32 := 0#32
  let v566 : BitVec 32 := Scalar.addi v565 c0_i32_415
  let c0_i32_568 : BitVec 32 := 0#32
  let c0_i32_569 : BitVec 32 := 0#32
  ![v566.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_422 : BitVec 32 := 4#32
  let v576 : BitVec 32 := Scalar.muli v564 c4_i32_422
  let c1_i32_423 : BitVec 32 := 1#32
  let v577 : BitVec 32 := Scalar.addi v576 c1_i32_423
  let v578 : BitVec 1 := Scalar.cmpi .ne v577 v2
  let v579 : BitVec 32 := Scalar.extui v578
  let c0_i32_424 : BitVec 32 := 0#32
  let v580 : BitVec 1 := Scalar.cmpi .ne v579 c0_i32_424
  v580

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_422 : BitVec 32 := 4#32
  let v576 : BitVec 32 := Scalar.muli v564 c4_i32_422
  let c1_i32_423 : BitVec 32 := 1#32
  let v577 : BitVec 32 := Scalar.addi v576 c1_i32_423
  ![v577.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_422 : BitVec 32 := 4#32
  let v576 : BitVec 32 := Scalar.muli v564 c4_i32_422
  let c1_i32_423 : BitVec 32 := 1#32
  let v577 : BitVec 32 := Scalar.addi v576 c1_i32_423
  let c0_i32_568 : BitVec 32 := 0#32
  let c0_i32_569 : BitVec 32 := 0#32
  ![v577.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_430 : BitVec 32 := 4#32
  let v587 : BitVec 32 := Scalar.muli v564 c4_i32_430
  let c2_i32_431 : BitVec 32 := 2#32
  let v588 : BitVec 32 := Scalar.addi v587 c2_i32_431
  let v589 : BitVec 1 := Scalar.cmpi .ne v588 v2
  let v590 : BitVec 32 := Scalar.extui v589
  let c0_i32_432 : BitVec 32 := 0#32
  let v591 : BitVec 1 := Scalar.cmpi .ne v590 c0_i32_432
  v591

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_430 : BitVec 32 := 4#32
  let v587 : BitVec 32 := Scalar.muli v564 c4_i32_430
  let c2_i32_431 : BitVec 32 := 2#32
  let v588 : BitVec 32 := Scalar.addi v587 c2_i32_431
  ![v588.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_430 : BitVec 32 := 4#32
  let v587 : BitVec 32 := Scalar.muli v564 c4_i32_430
  let c2_i32_431 : BitVec 32 := 2#32
  let v588 : BitVec 32 := Scalar.addi v587 c2_i32_431
  let c0_i32_568 : BitVec 32 := 0#32
  let c0_i32_569 : BitVec 32 := 0#32
  ![v588.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_438 : BitVec 32 := 4#32
  let v598 : BitVec 32 := Scalar.muli v564 c4_i32_438
  let c3_i32_439 : BitVec 32 := 3#32
  let v599 : BitVec 32 := Scalar.addi v598 c3_i32_439
  let v600 : BitVec 1 := Scalar.cmpi .ne v599 v2
  let v601 : BitVec 32 := Scalar.extui v600
  let c0_i32_440 : BitVec 32 := 0#32
  let v602 : BitVec 1 := Scalar.cmpi .ne v601 c0_i32_440
  v602

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_438 : BitVec 32 := 4#32
  let v598 : BitVec 32 := Scalar.muli v564 c4_i32_438
  let c3_i32_439 : BitVec 32 := 3#32
  let v599 : BitVec 32 := Scalar.addi v598 c3_i32_439
  ![v599.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_411 : BitVec 32 := 3#32
  let v562 : BitVec 32 := Scalar.subi v3 c3_i32_411
  let c4_i32_412 : BitVec 32 := 4#32
  let v563 : BitVec 32 := Scalar.addi v562 c4_i32_412
  let c4_i32_413 : BitVec 32 := 4#32
  let v564 : BitVec 32 := Scalar.remsi v563 c4_i32_413
  let c4_i32_438 : BitVec 32 := 4#32
  let v598 : BitVec 32 := Scalar.muli v564 c4_i32_438
  let c3_i32_439 : BitVec 32 := 3#32
  let v599 : BitVec 32 := Scalar.addi v598 c3_i32_439
  let c0_i32_568 : BitVec 32 := 0#32
  let c0_i32_569 : BitVec 32 := 0#32
  ![v599.toNat, 0, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Cells.lean ====
/-
# The exchange's semaphores, buffers and contents

Sixteen devices exchange blocks of `x` all to all and multiply what they receive with `w`. Each device has sixteen
send semaphores, sixteen receive semaphores, four semaphores for the copies of `w`, and the shared barrier semaphore.
This module names them, the parts of the buffers that change hands (the slots of the two exchange buffers, the four
row blocks of `w`, the four slots of its buffer) and what each of them holds once it is written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.ViewIndex

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the exchange's with the paying device as a duty's name. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter at zero. -/
def s₀ : MemSt nD τ sig (Elt F) := ⟨m, fun _ => 0, ρ⟩

/-! ## The mesh -/

set_option backward.proofsInPublic true in
/-- The device `k` places after `c`. -/
def sh (c : Dev nD) (k : ℕ) : Dev nD := ⟨(c.val + k) % 16, Nat.mod_lt _ (by decide)⟩

/-- Going round the mesh from `c`: the place after `c` at which `p` stands, and back. -/
def around (c : Dev nD) : Dev nD ≃ Dev nD where
  toFun k := sh c k.val
  invFun p := sh p (16 - c.val)
  left_inv k := by revert c k; decide
  right_inv p := by revert c p; decide

theorem sh_zero (c : Dev nD) : sh c 0 = c := by revert c; decide
theorem sh_ne (c : Dev nD) {k : ℕ} (h : 0 < k) (h' : k < 16) : sh c k ≠ c := by
  intro e
  have := congrArg Fin.val e
  simp only [sh] at this
  have hc := c.isLt
  simp only [nD] at hc
  omega

/-- The group of four devices that device `c` takes at its turn `t`: its own first, then downwards. -/
def grp (c : Dev nD) (t : ℕ) : ℕ := (c.val / 4 + 4 - t) % 4
theorem grp_lt (c : Dev nD) (t : ℕ) : grp c t < 4 := Nat.mod_lt _ (by decide)

/-- The device whose block device `c` takes at turn `t`, place `u`. -/
def peer (c : Dev nD) (t u : ℕ) : ℕ := 4 * grp c t + u
theorem peer_lt (c : Dev nD) {t u : ℕ} (h : u < 4) : peer c t u < 16 := by
  have := grp_lt c t; unfold peer; omega

/-! ## The semaphores -/

/-- The barrier semaphore every device shares with every other. -/
abbrev barS : Sem sig := (SemArray.scalar (sig.barrier 0 rfl) : Sems sig S_).sem

/-- A device's own transfer semaphores: by the device sent to, by the device received from, by the turn of `w`. -/
abbrev Own : Type := (Fin 16 ⊕ Fin 16) ⊕ Fin 4
abbrev ownSend (d : Fin 16) : Own := .inl (.inl d)
abbrev ownRecv (j : Fin 16) : Own := .inl (.inr j)
abbrev ownW (t : Fin 4) : Own := .inr t

set_option backward.proofsInPublic true in
def dsem : Own → DmaSem sig
  | .inl (.inl d) => ⟨2 + d.val, by have := d.isLt; simp only [sig]; omega⟩
  | .inl (.inr j) => ⟨18 + j.val, by have := j.isLt; simp only [sig]; omega⟩
  | .inr t => ⟨34 + t.val, by have := t.isLt; simp only [sig]; omega⟩

set_option backward.proofsInPublic true in
/-- Which of a device's own transfer semaphores a DMA semaphore is; the first two serve the staging copies. -/
def kind (q : DmaSem sig) : Option Own :=
  if q.val < 2 then none
  else if h : q.val < 18 then some (ownSend ⟨q.val - 2, by omega⟩)
  else if h : q.val < 34 then some (ownRecv ⟨q.val - 18, by omega⟩)
  else some (ownW ⟨q.val - 34, by have := q.isLt; simp only [sig] at this; omega⟩)

theorem kind_dsem (o : Own) : kind (dsem o) = some o := by revert o; decide
theorem dsem_injective : Function.Injective dsem := fun a b h => by
  have := congrArg kind h; rw [kind_dsem, kind_dsem] at this; exact Option.some.inj this

/-- A device's cells of the exchange: its own transfer semaphores and the barrier. -/
abbrev Cell : Type := Own ⊕ Unit
abbrev cSend (d : Fin 16) : Cell := .inl (ownSend d)
abbrev cRecv (j : Fin 16) : Cell := .inl (ownRecv j)
abbrev cW (t : Fin 4) : Cell := .inl (ownW t)
abbrev cBar : Cell := .inr ()

def csem : Cell → SemLoc sig
  | .inl o => .dma (dsem o)
  | .inr _ => .reg barS

abbrev kcell (ck : Dev nD × Cell) : GSem nD τ sig := ((ck.1 : Thread nD τ), csem ck.2)
abbrev barCell (c : Dev nD) : GSem nD τ sig := ((c : Thread nD τ), .reg barS)
abbrev sendCell (c : Dev nD) (d : Fin 16) : GSem nD τ sig := ((c : Thread nD τ), .dma (dsem (ownSend d)))
abbrev recvCell (c : Dev nD) (j : Fin 16) : GSem nD τ sig := ((c : Thread nD τ), .dma (dsem (ownRecv j)))
abbrev wCell (c : Dev nD) (t : Fin 4) : GSem nD τ sig := ((c : Thread nD τ), .dma (dsem (ownW t)))

theorem send_sem (d : ℕ) (hd : d < 16) (off : Fin 1 → ℕ) (h : off = ![d]) (inb) :
    ((cc0_scratch4.slice (Rect.unit (s := S16) off S1.size inb)).squeeze S_ squeezes_S1_S_).sem = dsem (ownSend ⟨d, hd⟩) := by
  subst h
  have : ∀ d : Fin 16, ∀ inb, ((cc0_scratch4.slice (Rect.unit (s := S16) ![d.val] S1.size inb)).squeeze S_ squeezes_S1_S_).sem
    = dsem (ownSend d) := by decide
  exact this ⟨d, hd⟩ inb
theorem recv_sem (d : ℕ) (hd : d < 16) (off : Fin 1 → ℕ) (h : off = ![d]) (inb) :
    ((cc0_scratch5.slice (Rect.unit (s := S16) off S1.size inb)).squeeze S_ squeezes_S1_S_).sem = dsem (ownRecv ⟨d, hd⟩) := by
  subst h
  have : ∀ d : Fin 16, ∀ inb, ((cc0_scratch5.slice (Rect.unit (s := S16) ![d.val] S1.size inb)).squeeze S_ squeezes_S1_S_).sem
    = dsem (ownRecv d) := by decide
  exact this ⟨d, hd⟩ inb
theorem w_sem (t : ℕ) (ht : t < 4) (off : Fin 1 → ℕ) (h : off = ![t]) (inb) :
    ((cc0_scratch6.slice (Rect.unit (s := S4) off S1.size inb)).squeeze S_ squeezes_S1_S_).sem = dsem (ownW ⟨t, ht⟩) := by
  subst h
  have : ∀ d : Fin 4, ∀ inb, ((cc0_scratch6.slice (Rect.unit (s := S4) ![d.val] S1.size inb)).squeeze S_ squeezes_S1_S_).sem
    = dsem (ownW d) := by decide
  exact this ⟨t, ht⟩ inb

end Cert.Exchange

end
-- ==== Proof.Slots.lean ====
/-
# The parts of the buffers that change hands, and what is in them

A slot of a three-axis buffer is the elements with one first coordinate; a row block of `w` is 512 of its rows. Here:
which elements an access, a transfer's end or a slice covers; what such an access leaves when it writes; and the
contents of the sending and receiving buffers, of the buffer of `w` and of the gathered operand, as functions of the
arguments alone.
-/
module

public import proofs.«01_k».proof.Proof.Cells
public import Idealize.ShloMosaic.Lib.Pipeline.ValueKit.Geometry

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sets of elements -/

/-- The elements of a three-axis buffer whose first coordinate is `d`. -/
def slot {a b k : ℕ} (d : ℕ) : Finset (⟨3, ![a, b, k]⟩ : Shape).Idx := Finset.univ.filter fun i => (i 0).val = d
/-- The elements of `w` in its `g`-th block of 512 rows. -/
def rows (g : ℕ) : Finset S2048x2048.Idx := Finset.univ.filter fun i => (i 0).val / 512 = g

theorem mem_slot {a b k d : ℕ} {i : (⟨3, ![a, b, k]⟩ : Shape).Idx} : i ∈ slot d ↔ (i 0).val = d := by simp [slot]
theorem mem_rows {g : ℕ} {i : S2048x2048.Idx} : i ∈ rows g ↔ (i 0).val / 512 = g := by simp [rows]

theorem slot_disjoint {a b k d d' : ℕ} (h : d ≠ d') : Disjoint (slot d : Finset (⟨3, ![a, b, k]⟩ : Shape).Idx) (slot d') :=
  Finset.disjoint_left.mpr fun i hi hi' => h ((mem_slot.mp hi).symm.trans (mem_slot.mp hi'))
theorem rows_disjoint {g g' : ℕ} (h : g ≠ g') : Disjoint (rows g) (rows g') :=
  Finset.disjoint_left.mpr fun i hi hi' => h ((mem_rows.mp hi).symm.trans (mem_rows.mp hi'))

/-- The slots of a buffer make it up. -/
theorem slot_cover {a b k : ℕ} : (Finset.univ : Finset (Fin a)).biUnion (fun d => (slot d.val : Finset (⟨3, ![a, b, k]⟩ : Shape).Idx)) = Finset.univ := by
  ext i
  simp only [Finset.mem_biUnion, Finset.mem_univ, true_and, iff_true]
  exact ⟨i 0, mem_slot.mpr rfl⟩

/-- The rectangle of one slot is the slot. -/
theorem slot_rect {a b k d : ℕ} {off : Fin 3 → ℕ} (h : off = ![d, 0, 0]) (inb) :
    (Rect.unit (s := (⟨3, ![a, b, k]⟩ : Shape)) off (![1, b, k] : Fin 3 → ℕ) inb).set = slot d := by
  subst h
  ext i
  rw [Rect.mem_set_unit, mem_slot, Fin.forall_fin_succ, Fin.forall_fin_succ, Fin.forall_fin_one]
  have h1 := (i 1).isLt
  have h2 := (i 2).isLt
  simp only [Fin.succ_zero_eq_one, Matrix.cons_val_zero, Matrix.cons_val_one, Matrix.cons_val] at h1 h2 ⊢
  constructor
  · rintro ⟨⟨h, h'⟩, -⟩; omega
  · intro h
    refine ⟨by omega, by omega, ?_⟩
    show 0 ≤ (i 2).val ∧ (i 2).val < 0 + k
    omega

/-- The rectangle of one row block of `w` is the row block. -/
theorem rows_rect {g : ℕ} {off : Fin 2 → ℕ} (h : off = ![512 * g, 0]) (inb) :
    (Rect.unit (s := S2048x2048) off S512x2048.size inb).set = rows g := by
  subst h
  ext i
  rw [Rect.mem_set_unit, mem_rows, Fin.forall_fin_succ, Fin.forall_fin_one]
  have h1 : (i 1).val < 2048 := (i 1).isLt
  show ((512 * g ≤ (i 0).val ∧ (i 0).val < 512 * g + 512) ∧ (0 ≤ (i 1).val ∧ (i 1).val < 0 + 2048)) ↔ (i 0).val / 512 = g
  omega

/-! ## What an access writes, what it reads -/

section Views

variable {sp sp' : Space} {e : EltTy} {Val : EltTy → Type}

/-- Where an element of a slot's rectangle lies in the buffer. -/
theorem slot_emb {a b k d : ℕ} (hd : d < a) {off : Fin 3 → ℕ} (h : off = ![d, 0, 0]) (inb)
    (x : (⟨3, ![1, b, k]⟩ : Shape).Idx) :
    (Rect.unit (s := (⟨3, ![a, b, k]⟩ : Shape)) off (![1, b, k] : Fin 3 → ℕ) inb).emb x = ix3 (⟨d, hd⟩ : Fin a) (x 1) (x 2) := by
  subst h
  have h0 : (x 0).val < 1 := (x 0).isLt
  refine Shape.idx3_ext ?_ ?_ ?_ <;> rw [ValueKit.rect_emb_unit_val]
  · show d + (x 0).val = d; omega
  · show 0 + (x 1).val = (x 1).val; omega
  · show 0 + (x 2).val = (x 2).val; omega

/-- A store to a slot leaves in it any contents that read as what was stored. -/
theorem write_slot {a b k d : ℕ} (hd : d < a) (v : View sig .tc sp (⟨3, ![a, b, k]⟩ : Shape) e) {off : Fin 3 → ℕ} (h : off = ![d, 0, 0]) (inb)
    (f g : v.ty.Contents Val) (w : (⟨3, ![1, b, k]⟩ : Shape).Idx → Val e)
    (hg : ∀ x : (⟨3, ![1, b, k]⟩ : Shape).Idx, v.read Val g (ix3 (⟨d, hd⟩ : Fin a) (x 1) (x 2)) = w x) :
    ∀ i ∈ (v.slice (Rect.unit (s := (⟨3, ![a, b, k]⟩ : Shape)) off (![1, b, k] : Fin 3 → ℕ) inb)).set,
      (v.slice (Rect.unit (s := (⟨3, ![a, b, k]⟩ : Shape)) off (![1, b, k] : Fin 3 → ℕ) inb)).write Val f w Finset.univ i = g i := by
  intro i hi
  obtain ⟨x, hx, rfl⟩ := Finset.mem_map.mp hi
  refine View.eq_of_read_eq (v := v.slice (Rect.unit (s := (⟨3, ![a, b, k]⟩ : Shape)) off (![1, b, k] : Fin 3 → ℕ) inb)) (x := x) ?_
  rw [View.read_write_of_mem _ _ (Finset.mem_univ x)]
  exact (hg x).symm.trans (congrArg (v.read Val g) (slot_emb hd h inb x).symm)

/-- A transfer between two slots of equal shape leaves in the target any contents that read there as the source does. -/
theorem move_slot {a b k d d' : ℕ} (hd : d < a) (hd' : d' < a) {t : Shape} (hq : (⟨3, ![1, b, k]⟩ : Shape).Squeezes t)
    (v : View sig .tc sp (⟨3, ![a, b, k]⟩ : Shape) e) (v' : View sig .tc sp' (⟨3, ![a, b, k]⟩ : Shape) e)
    {off off' : Fin 3 → ℕ} (h : off = ![d, 0, 0]) (h' : off' = ![d', 0, 0]) (inb) (inb')
    (fs : v.ty.Contents Val) (f g : v'.ty.Contents Val)
    (hg : ∀ (y : Fin b) (z : Fin k), v'.read Val g (ix3 (⟨d', hd'⟩ : Fin a) y z) = v.read Val fs (ix3 (⟨d, hd⟩ : Fin a) y z)) :
    ∀ i ∈ ((v'.slice (Rect.unit (s := (⟨3, ![a, b, k]⟩ : Shape)) off' (![1, b, k] : Fin 3 → ℕ) inb')).reshape t hq.numel_eq).set,
      ((v'.slice (Rect.unit (s := (⟨3, ![a, b, k]⟩ : Shape)) off' (![1, b, k] : Fin 3 → ℕ) inb')).reshape t hq.numel_eq).write Val f
        (((v.slice (Rect.unit (s := (⟨3, ![a, b, k]⟩ : Shape)) off (![1, b, k] : Fin 3 → ℕ) inb)).reshape t hq.numel_eq).read Val fs) Finset.univ i = g i := by
  intro i hi
  obtain ⟨x, hx, rfl⟩ := Finset.mem_map.mp hi
  refine View.eq_of_read_eq (v := (v'.slice (Rect.unit (s := (⟨3, ![a, b, k]⟩ : Shape)) off' (![1, b, k] : Fin 3 → ℕ) inb')).reshape t hq.numel_eq) (x := x) ?_
  rw [View.read_write_of_mem _ _ (Finset.mem_univ x)]
  show v.read Val fs ((Rect.unit (s := (⟨3, ![a, b, k]⟩ : Shape)) off (![1, b, k] : Fin 3 → ℕ) inb).emb (Shape.reshapeEquiv hq.numel_eq x))
    = v'.read Val g ((Rect.unit (s := (⟨3, ![a, b, k]⟩ : Shape)) off' (![1, b, k] : Fin 3 → ℕ) inb').emb (Shape.reshapeEquiv hq.numel_eq x))
  exact (congrArg (v.read Val fs) (slot_emb hd h inb _)).trans ((hg _ _).symm.trans (congrArg (v'.read Val g) (slot_emb hd' h' inb' _)).symm)

/-- A copy of a row block of `w` into a slot leaves in the slot any contents that read there as the row block does. -/
theorem move_rows {d g : ℕ} (hd : d < 4) (hg4 : g < 4) (v : View sig .tc sp S2048x2048 e) (v' : View sig .tc sp' S4x512x2048 e)
    {off : Fin 2 → ℕ} {off' : Fin 3 → ℕ} (h : off = ![512 * g, 0]) (h' : off' = ![d, 0, 0]) (inb) (inb')
    (fs : v.ty.Contents Val) (f fn : v'.ty.Contents Val)
    (hg : ∀ (y : Fin 512) (z : Fin 2048), v'.read Val fn (ix3 (⟨d, hd⟩ : Fin 4) y z)
      = v.read Val fs (ix2 (⟨512 * g + y.val, by have := y.isLt; omega⟩ : Fin 2048) z)) :
    ∀ i ∈ ((v'.slice (Rect.unit (s := S4x512x2048) off' S1x512x2048.size inb')).reshape S512x2048 squeezes_S1x512x2048_S512x2048.numel_eq).set,
      ((v'.slice (Rect.unit (s := S4x512x2048) off' S1x512x2048.size inb')).reshape S512x2048 squeezes_S1x512x2048_S512x2048.numel_eq).write Val f
        ((v.slice (Rect.unit (s := S2048x2048) off S512x2048.size inb)).read Val fs) Finset.univ i = fn i := by
  intro i hi
  obtain ⟨x, hx, rfl⟩ := Finset.mem_map.mp hi
  refine View.eq_of_read_eq (v := (v'.slice (Rect.unit (s := S4x512x2048) off' S1x512x2048.size inb')).reshape S512x2048 squeezes_S1x512x2048_S512x2048.numel_eq) (x := x) ?_
  rw [View.read_write_of_mem _ _ (Finset.mem_univ x)]
  show v.read Val fs ((Rect.unit (s := S2048x2048) off S512x2048.size inb).emb x)
    = v'.read Val fn ((Rect.unit (s := S4x512x2048) off' S1x512x2048.size inb').emb (Shape.reshapeEquiv squeezes_S1x512x2048_S512x2048.numel_eq x))
  have hx2 : x = ix2 (x 0 : Fin 512) (x 1 : Fin 2048) := by
    funext a; match a with | ⟨0, _⟩ => rfl | ⟨1, _⟩ => rfl
  have hre : Shape.reshapeEquiv squeezes_S1x512x2048_S512x2048.numel_eq x = ix3 (⟨0, Nat.one_pos⟩ : Fin 1) (x 0 : Fin 512) (x 1 : Fin 2048) :=
    (congrArg _ hx2).trans (reshapeEquiv_ix2_1ab (a := 512) (b := 2048) _ _ _)
  refine Eq.trans ?_ ((hg (x 0) (x 1)).symm.trans (congrArg (v'.read Val fn) ((slot_emb hd h' inb' _).trans (by rw [hre]; rfl)).symm))
  congr 1
  subst h
  funext a
  match a with
  | ⟨0, _⟩ => exact Fin.ext (ValueKit.rect_emb_unit_val (s := S2048x2048) _ _ _ _ 0)
  | ⟨1, _⟩ => exact Fin.ext ((ValueKit.rect_emb_unit_val (s := S2048x2048) _ _ _ _ 1).trans (Nat.zero_add _))

end Views

/-! ## Contents -/

abbrev xM : Memref sig .tc .vmem S2048x128 .f32 := Memref.whole cc0_stg0_0
abbrev wM : Memref sig .tc .hbm S2048x2048 .f32 := Memref.whole main_arg1
abbrev oM : Memref sig .tc .vmem S128x2048 .f32 := Memref.whole cc0_stg1_0
abbrev sendM : Memref sig .tc .vmem S16x128x128 .bf16 := Memref.whole cc0_scratch0
abbrev commM : Memref sig .tc .vmem S16x128x128 .bf16 := Memref.whole cc0_scratch1
abbrev wbufM : Memref sig .tc .vmem S4x512x2048 .f32 := Memref.whole cc0_scratch2
abbrev xgM : Memref sig .tc .vmem S4x128x512 .bf16 := Memref.whole cc0_scratch3

/-- Device `c`'s columns of `x`, as staged. -/
def xstg (c : Dev nD) : S2048x128.Idx → Elt F .f32 :=
  (win0_0.blk (0 : Fin 1)).view.read (Elt F) ((s₀ m ρ).mem ((c : Thread nD τ).loc main_arg0))

/-- Device `c`'s copy of `w`. -/
def warr (c : Dev nD) : S2048x2048.Idx → Elt F .f32 := m ((c : Thread nD τ).loc main_arg1)

/-- Rows `128 d … 128 d + 127` of device `c`'s columns of `x`. -/
def xrows (c : Dev nD) (d : ℕ) (hd : d < 16) : S128x128.Idx → Elt F .f32 := fun y =>
  xstg m ρ c (ix2 (⟨128 * d + (y 0).val, by have : (y 0).val < 128 := (y 0).isLt; omega⟩ : Fin 2048) (y 1))

/-- The sending buffer filled: slot `d` holds the rows meant for device `d`, rounded. -/
def sendVal (c : Dev nD) : S16x128x128.Idx → Elt F .bf16 := fun i =>
  (truncf .bf16 (xrows m ρ c (i 0).val (i 0).isLt : FVec F S128x128 .f32) bitsLt_bf16_f32 : FVec F S128x128 .bf16) (ix2 (i 1) (i 2))

/-- The receiving buffer filled: slot `j` holds what device `j` sent. -/
def commVal (c : Dev nD) : S16x128x128.Idx → Elt F .bf16 := fun i => sendVal m ρ (i 0) (ix3 c (i 1) (i 2))

/-- The buffer of `w` filled: slot `t` holds the rows of the group taken at turn `t`. -/
def wVal (c : Dev nD) : S4x512x2048.Idx → Elt F .f32 := fun i =>
  warr m c (ix2 (⟨512 * grp c (i 0).val + (i 1).val, by
    have := grp_lt c (i 0).val; have : (i 1).val < 512 := (i 1).isLt; omega⟩ : Fin 2048) (i 2))

/-- The gathered operand filled: at turn `t` the four blocks of the group taken then, side by side. -/
def xgVal (c : Dev nD) : S4x128x512.Idx → Elt F .bf16 := fun i =>
  commVal m ρ c (ix3 (⟨peer c (i 0).val ((i 2).val / 128), peer_lt c (by have : (i 2).val < 512 := (i 2).isLt; omega)⟩ : Fin 16)
    (i 1) (⟨(i 2).val % 128, Nat.mod_lt _ (by decide)⟩ : Fin 128))

/-! ## Ownership of a slot and of a row block -/

def sendPts (c : Dev nD) (d : ℕ) (f : Buf (Elt F) ((c : Thread nD τ).loc cc0_scratch0)) : sProp 𝕄 :=
  ((c : Thread nD τ).loc cc0_scratch0) ↦[(slot d : Finset S16x128x128.Idx)]{fullShare} f
def commPts (c : Dev nD) (d : ℕ) (f : Buf (Elt F) ((c : Thread nD τ).loc cc0_scratch1)) : sProp 𝕄 :=
  ((c : Thread nD τ).loc cc0_scratch1) ↦[(slot d : Finset S16x128x128.Idx)]{fullShare} f
def wbufPts (c : Dev nD) (t : ℕ) (f : Buf (Elt F) ((c : Thread nD τ).loc cc0_scratch2)) : sProp 𝕄 :=
  ((c : Thread nD τ).loc cc0_scratch2) ↦[(slot t : Finset S4x512x2048.Idx)]{fullShare} f
def rowPts (c : Dev nD) (g : ℕ) : sProp 𝕄 :=
  ((c : Thread nD τ).loc main_arg1) ↦[rows g]{fullShare} warr m c

omit [FloatOps F] in
instance sendPts_storable (c : Dev nD) (d : ℕ) (f) : BI.Storable (upEmb : UEmb _ 𝕄) (sendPts (F := F) c d f) := by unfold sendPts; infer_instance
omit [FloatOps F] in
instance commPts_storable (c : Dev nD) (d : ℕ) (f) : BI.Storable (upEmb : UEmb _ 𝕄) (commPts (F := F) c d f) := by unfold commPts; infer_instance
omit [FloatOps F] in
instance wbufPts_storable (c : Dev nD) (d : ℕ) (f) : BI.Storable (upEmb : UEmb _ 𝕄) (wbufPts (F := F) c d f) := by unfold wbufPts; infer_instance
omit [FloatOps F] in
instance rowPts_storable (c : Dev nD) (g : ℕ) : BI.Storable (upEmb : UEmb _ 𝕄) (rowPts (F := F) m c g) := by unfold rowPts; infer_instance

omit [FloatOps F] in
theorem send_split (c : Dev nD) (f) : (((c : Thread nD τ).loc cc0_scratch0) ↦{fullShare} f : sProp 𝕄)
    = bigSep (Finset.univ : Finset (Fin 16)) fun d => sendPts c d.val f := by
  unfold sendPts
  rw [← pointsTo_biUnion _ _ fun t _ t' _ h => slot_disjoint fun e => h (Fin.ext e)]
  exact congrArg (fun S => (((c : Thread nD τ).loc cc0_scratch0) ↦[S]{fullShare} f : sProp 𝕄)) slot_cover.symm
omit [FloatOps F] in
theorem comm_split (c : Dev nD) (f) : (((c : Thread nD τ).loc cc0_scratch1) ↦{fullShare} f : sProp 𝕄)
    = bigSep (Finset.univ : Finset (Fin 16)) fun d => commPts c d.val f := by
  unfold commPts
  rw [← pointsTo_biUnion _ _ fun t _ t' _ h => slot_disjoint fun e => h (Fin.ext e)]
  exact congrArg (fun S => (((c : Thread nD τ).loc cc0_scratch1) ↦[S]{fullShare} f : sProp 𝕄)) slot_cover.symm
omit [FloatOps F] in
theorem wbuf_split (c : Dev nD) (f) : (((c : Thread nD τ).loc cc0_scratch2) ↦{fullShare} f : sProp 𝕄)
    = bigSep (Finset.univ : Finset (Fin 4)) fun d => wbufPts c d.val f := by
  unfold wbufPts
  rw [← pointsTo_biUnion _ _ fun t _ t' _ h => slot_disjoint fun e => h (Fin.ext e)]
  exact congrArg (fun S => (((c : Thread nD τ).loc cc0_scratch2) ↦[S]{fullShare} f : sProp 𝕄)) slot_cover.symm
omit [FloatOps F] in
/-- Device `c`'s `w` is its row blocks in the order it takes them. -/
theorem row_split (c : Dev nD) : (((c : Thread nD τ).loc main_arg1) ↦{fullShare} m ((c : Thread nD τ).loc main_arg1) : sProp 𝕄)
    = bigSep (Finset.univ : Finset (Fin 4)) fun t => rowPts m c (grp c t.val) := by
  unfold rowPts
  have hinj : ∀ t t' : Fin 4, grp c t.val = grp c t'.val → t = t' := by revert c; decide
  have hsurj : ∀ g : Fin 4, ∃ t : Fin 4, grp c t.val = g.val := by revert c; decide
  rw [← pointsTo_biUnion _ _ fun t _ t' _ h => rows_disjoint fun e => h (hinj t t' e)]
  refine congrArg (fun S => (((c : Thread nD τ).loc main_arg1) ↦[S]{fullShare} m ((c : Thread nD τ).loc main_arg1) : sProp 𝕄)) ?_
  symm
  refine Finset.eq_univ_iff_forall.mpr fun i => ?_
  have hi : (i 0).val < 2048 := (i 0).isLt
  obtain ⟨t, ht⟩ := hsurj ⟨(i 0).val / 512, by omega⟩
  exact Finset.mem_biUnion.mpr ⟨t, Finset.mem_univ _, mem_rows.mpr ht.symm⟩

end Cert.Exchange

end
-- ==== Proof.Schedule.lean ====
/-
# Who pays what to whom

One round of duties, each named by the device that pays it.

* The barrier cell of device `p`: one unit from each other device `j`, which brings slot `p` of `j`'s receiving buffer, the
  place `p`'s transfer to `j` writes to.
* The send cell `d` of device `c`, for `d ≠ c`: the credit of one block, from `c`'s own transfer to `d`; it brings slot `d`
  of the sending buffer back.
* The receive cell `j` of device `c`, for `j ≠ c`: the credit of one block from device `j`; it brings slot `j` of the receiving
  buffer, filled.
* The cell of `w` at turn `t`: the credit of one row block, from the device's own copy; it brings the slot filled and the rows back.

What a device owes at launch, and the levels that make every wait wait for something above it.
-/
module

public import proofs.«01_k».proof.Proof.Slots

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The credit of one block of the exchange, and of one row block of `w`. -/
def N : ℕ := ((commM.slice (Rect.unit (s := S16x128x128) ![0, 0, 0] S1x128x128.size inb_S16x128x128_S1x128x128_0_0_0) (fun _ => rfl)).squeeze
  S128x128 squeezes_S1x128x128_S128x128).view.dmaCredit
def NW : ℕ := ((wbufM.slice (Rect.unit (s := S4x512x2048) ![0, 0, 0] S1x512x2048.size inb_S4x512x2048_S1x512x2048_0_0_0) (fun _ => rfl)).squeeze
  S512x2048 squeezes_S1x512x2048_S512x2048).view.dmaCredit
theorem N_pos : 0 < N := View.dmaCredit_pos _ (by decide)
theorem NW_pos : 0 < NW := View.dmaCredit_pos _ (by decide)

/-- What device `j`'s signal brings device `p`. -/
def barPay (p j : Dev nD) : sProp 𝕄 := iprop(∃ f, commPts (F := F) j p.val f)

/-- Who pays a transfer cell. -/
def xferDuties (c : Dev nD) : Option Own → Finset (Dev nD)
  | some (.inl (.inl d)) => if d ≠ c then {c} else ∅
  | some (.inl (.inr j)) => if j ≠ c then {j} else ∅
  | some (.inr _) => {c}
  | none => ∅
def xferAmount : Option Own → ℕ
  | some (.inr _) => NW
  | _ => N
/-- What completing a transfer brings. -/
def xferPay (c : Dev nD) : Option Own → sProp 𝕄
  | some (.inl (.inl d)) => sendPts c d.val (sendVal m ρ c)
  | some (.inl (.inr j)) => commPts c j.val (commVal m ρ c)
  | some (.inr t) => iprop(wbufPts c t.val (wVal m c) ∗ rowPts m c (grp c t.val))
  | none => iprop(emp)

def Rd : Rounds.Schedule (GSem nD τ sig) (Dev nD) 𝕄 where
  duties g r := if r = 0 ∧ g.1.2 = .tc then (match g.2 with
    | .reg _ => Finset.univ.erase g.1.1
    | .dma q => xferDuties g.1.1 (kind q)) else ∅
  unitless _ := False
  amount g _ _ := match g.2 with
    | .reg _ => 1
    | .dma q => xferAmount (kind q)
  payload g _ d := match g.2 with
    | .reg _ => barPay g.1.1 d
    | .dma q => xferPay m ρ g.1.1 (kind q)
  amount_pos g _ _ _ := by
    rcases g with ⟨_, _ | q⟩
    · exact Nat.one_pos
    · show 0 < xferAmount (kind q)
      unfold xferAmount; split
      · exact NW_pos
      · exact N_pos

instance barPay_storable (p j : Dev nD) : BI.Storable (upEmb : UEmb _ 𝕄) (barPay (F := F) p j) := by unfold barPay; infer_instance
instance xferPay_storable (c : Dev nD) (o : Option Own) : BI.Storable (upEmb : UEmb _ 𝕄) (xferPay (F := F) m ρ c o) := by
  unfold xferPay; split <;> infer_instance
instance Rd_payload_storable (g : GSem nD τ sig) (r : ℕ) (d : Dev nD) :
    BI.Storable (upEmb : UEmb _ 𝕄) ((Rd (F := F) m ρ).payload g r d) := by
  rcases g with ⟨_, _ | q⟩
  · exact barPay_storable _ _
  · exact xferPay_storable _ _ _ _

section Facts
variable (c : Dev nD)

theorem duties_bar : (Rd (F := F) m ρ).duties (barCell c) 0 = Finset.univ.erase c := by
  dsimp only [Rd]; rw [if_pos ⟨rfl, rfl⟩]
theorem duties_dma (o : Own) : (Rd (F := F) m ρ).duties ((c : Thread nD τ), .dma (dsem o)) 0 = xferDuties c (some o) := by
  dsimp only [Rd]; rw [if_pos ⟨rfl, rfl⟩, kind_dsem]
theorem duties_send {d : Fin 16} (h : d ≠ c) : (Rd (F := F) m ρ).duties (sendCell c d) 0 = {c} := (duties_dma m ρ c _).trans (if_pos h)
theorem duties_recv {j : Fin 16} (h : j ≠ c) : (Rd (F := F) m ρ).duties (recvCell c j) 0 = {j} := (duties_dma m ρ c _).trans (if_pos h)
theorem duties_w (t : Fin 4) : (Rd (F := F) m ρ).duties (wCell c t) 0 = {c} := duties_dma m ρ c _
theorem duties_later (g : GSem nD τ sig) : ∀ r, 1 ≤ r → (Rd (F := F) m ρ).duties g r = ∅ :=
  fun r hr => if_neg fun h => by omega
/-- A device sends nothing to itself and receives nothing from itself: these two cells never have a duty. -/
theorem duties_self_send : ∀ r, 0 ≤ r → (Rd (F := F) m ρ).duties (sendCell c c) r = ∅ := fun r _ => by
  rcases Nat.eq_zero_or_pos r with rfl | h
  · exact (duties_dma m ρ c _).trans (if_neg fun h => h rfl)
  · exact duties_later m ρ _ r h
theorem duties_self_recv : ∀ r, 0 ≤ r → (Rd (F := F) m ρ).duties (recvCell c c) r = ∅ := fun r _ => by
  rcases Nat.eq_zero_or_pos r with rfl | h
  · exact (duties_dma m ρ c _).trans (if_neg fun h => h rfl)
  · exact duties_later m ρ _ r h

theorem amount_bar (d : Dev nD) : (Rd (F := F) m ρ).amount (barCell c) 0 d = 1 := rfl
theorem amount_dma (o : Own) (d : Dev nD) : (Rd (F := F) m ρ).amount ((c : Thread nD τ), .dma (dsem o)) 0 d = xferAmount (some o) := by
  rw [← kind_dsem o]; rfl
theorem amount_send (i : Fin 16) (d : Dev nD) : (Rd (F := F) m ρ).amount (sendCell c i) 0 d = N := amount_dma m ρ c _ d
theorem amount_recv (i : Fin 16) (d : Dev nD) : (Rd (F := F) m ρ).amount (recvCell c i) 0 d = N := amount_dma m ρ c _ d
theorem amount_w (i : Fin 4) (d : Dev nD) : (Rd (F := F) m ρ).amount (wCell c i) 0 d = NW := amount_dma m ρ c _ d

theorem payload_bar (d : Dev nD) : (Rd (F := F) m ρ).payload (barCell c) 0 d = barPay c d := rfl
theorem payload_dma (o : Own) (d : Dev nD) : (Rd (F := F) m ρ).payload ((c : Thread nD τ), .dma (dsem o)) 0 d = xferPay m ρ c (some o) := by
  rw [← kind_dsem o]; rfl
theorem payload_send (i : Fin 16) (d : Dev nD) : (Rd (F := F) m ρ).payload (sendCell c i) 0 d = sendPts c i.val (sendVal m ρ c) := payload_dma m ρ c _ d
theorem payload_recv (i : Fin 16) (d : Dev nD) : (Rd (F := F) m ρ).payload (recvCell c i) 0 d = commPts c i.val (commVal m ρ c) := payload_dma m ρ c _ d
theorem payload_w (i : Fin 4) (d : Dev nD) : (Rd (F := F) m ρ).payload (wCell c i) 0 d
    = iprop(wbufPts c i.val (wVal m c) ∗ rowPts m c (grp c i.val)) := payload_dma m ρ c _ d

theorem expect_bar : (Rd (F := F) m ρ).expect (barCell c) 0 = 15 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  rfl
theorem expect_send {d : Fin 16} (h : d ≠ c) : (Rd (F := F) m ρ).expect (sendCell c d) 0 = N := by
  unfold Schedule.expect Schedule.amountOf; rw [duties_send m ρ c h, Finset.sum_singleton, amount_send]
theorem expect_recv {d : Fin 16} (h : d ≠ c) : (Rd (F := F) m ρ).expect (recvCell c d) 0 = N := by
  unfold Schedule.expect Schedule.amountOf; rw [duties_recv m ρ c h, Finset.sum_singleton, amount_recv]
theorem expect_w (t : Fin 4) : (Rd (F := F) m ρ).expect (wCell c t) 0 = NW := by
  unfold Schedule.expect Schedule.amountOf; rw [duties_w, Finset.sum_singleton, amount_w]

theorem rest_bar : bigSep ((Rd (F := F) m ρ).duties (barCell c) 0 \ ∅) (fun d => (Rd (F := F) m ρ).payload (barCell c) 0 d)
    = bigSep (Finset.univ.erase c) fun j => barPay (F := F) c j := by
  rw [Finset.sdiff_empty, duties_bar]; rfl
theorem rest_send {d : Fin 16} (h : d ≠ c) : bigSep ((Rd (F := F) m ρ).duties (sendCell c d) 0 \ ∅) (fun j => (Rd (F := F) m ρ).payload (sendCell c d) 0 j)
    = sendPts c d.val (sendVal m ρ c) := by
  rw [Finset.sdiff_empty, duties_send m ρ c h, bigSep_singleton, payload_send]
theorem rest_recv {d : Fin 16} (h : d ≠ c) : bigSep ((Rd (F := F) m ρ).duties (recvCell c d) 0 \ ∅) (fun j => (Rd (F := F) m ρ).payload (recvCell c d) 0 j)
    = commPts c d.val (commVal m ρ c) := by
  rw [Finset.sdiff_empty, duties_recv m ρ c h, bigSep_singleton, payload_recv]
theorem rest_w (t : Fin 4) : bigSep ((Rd (F := F) m ρ).duties (wCell c t) 0 \ ∅) (fun j => (Rd (F := F) m ρ).payload (wCell c t) 0 j)
    = iprop(wbufPts c t.val (wVal m c) ∗ rowPts m c (grp c t.val)) := by
  rw [Finset.sdiff_empty, duties_w, bigSep_singleton, payload_w]

end Facts

/-! ## What a device owes, and the levels -/

/-- The signals device `c` has yet to send from the `n`-th on, and the blocks it has yet to send from the `n`-th on. -/
def oBar (c : Dev nD) (n : ℕ) : CellTallies nD τ sig Unit := ∑ k ∈ Finset.Ico n 16, tallyAt (barCell (sh c k)) () 1
def oRecv (c : Dev nD) (n : ℕ) : CellTallies nD τ sig Unit := ∑ k ∈ Finset.Ico n 16, tallyAt (recvCell (sh c k) c) () N
def O₀ (c : Dev nD) : CellTallies nD τ sig Unit := oRecv c 1 + oBar c 1

theorem ico_bot {n : ℕ} (h : n < 16) : Finset.Ico n 16 = insert n (Finset.Ico (n + 1) 16) := by
  ext x; simp only [Finset.mem_Ico, Finset.mem_insert]; omega

theorem oBar_step (c : Dev nD) {n : ℕ} (h : n < 16) : oBar c n = oBar c (n + 1) + tallyAt (barCell (sh c n)) () 1 := by
  unfold oBar; rw [ico_bot h, Finset.sum_insert (fun e => by rw [Finset.mem_Ico] at e; omega), add_comm]
theorem oRecv_step (c : Dev nD) {n : ℕ} (h : n < 16) : oRecv c n = oRecv c (n + 1) + tallyAt (recvCell (sh c n) c) () N := by
  unfold oRecv; rw [ico_bot h, Finset.sum_insert (fun e => by rw [Finset.mem_Ico] at e; omega), add_comm]
theorem oBar_end (c : Dev nD) : oBar c 16 = 0 := by unfold oBar; rw [Finset.Ico_self, Finset.sum_empty]
theorem oRecv_end (c : Dev nD) : oRecv c 16 = 0 := by unfold oRecv; rw [Finset.Ico_self, Finset.sum_empty]

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => match kind q with
    | some (.inl (.inr _)) => 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 16) (u : Unit) : lv (recvCell c j) u = 2 := by
  dsimp only [lv]; rw [kind_dsem]
theorem lv_bar (c : Dev nD) (u : Unit) : lv (barCell c) u = 1 := rfl
theorem lv_none (c : Dev nD) {q : DmaSem sig} (h : kind q = none) (u : Unit) : lv ((c : Thread nD τ), .dma q) u = 0 := by
  dsimp only [lv]; rw [h]

/-- A tally summed over a range is positive only at a cell of the range. -/
theorem sum_tally_pos {g : GSem nD τ sig} {u : Unit} (s : Finset ℕ) (cell : ℕ → GSem nD τ sig) (x : ℕ)
    (h : 0 < (∑ k ∈ s, (tallyAt (cell k) () x : CellTallies nD τ sig Unit)) g u) : ∃ k, g = cell k := by
  induction s using Finset.induction_on with
  | empty => rw [Finset.sum_empty] at h; exact absurd h (Nat.lt_irrefl 0)
  | insert k s hk ih =>
    rw [Finset.sum_insert hk, Pi.add_apply, Finsupp.add_apply, tallyAt_apply] at h
    by_cases e : g = cell k
    · exact ⟨k, e⟩
    · rw [if_neg fun h' => e h'.1, Nat.zero_add] at h; exact ih h

theorem oBar_pos {c : Dev nD} {n : ℕ} {g : GSem nD τ sig} {u : Unit} (h : 0 < oBar c n g u) : ∃ p, g = barCell p :=
  (sum_tally_pos _ (fun k => barCell (sh c k)) 1 h).imp' (sh c) fun _ h => h
theorem oRecv_pos {c : Dev nD} {n : ℕ} {g : GSem nD τ sig} {u : Unit} (h : 0 < oRecv c n g u) : ∃ p, g = recvCell p c :=
  (sum_tally_pos _ (fun k => recvCell (sh c k) c) N h).imp' (sh c) fun _ h => h

omit [FloatOps F] in
/-- The staging copies may be waited for whatever is owed at launch. -/
theorem mayWait_stage (c : Dev nD) (q : DmaSem sig) (hq : kind q = none) (O : CellTallies nD τ sig Unit) (hO : O = O₀ c ∨ O = 0) :
    (levAts L lv : sProp 𝕄) ⊢ MayWait (c : Thread nD τ) (.dma q) () O := by
  rcases hO with rfl | rfl
  · have hpos : ∀ g u, 0 < O₀ c g u → (∃ p, g = recvCell p c) ∨ ∃ p, g = barCell p := fun g u h => by
      unfold O₀ at h; rw [Pi.add_apply, Finsupp.add_apply] at h
      rcases Nat.eq_zero_or_pos (oRecv c 1 g u) with h0 | h0
      · rw [h0, Nat.zero_add] at h; exact .inr (oBar_pos h)
      · exact .inl (oRecv_pos h0)
    refine MayOwe.of_cut (L := L) (lev := lv) 0 (fun p hp => by rw [Finset.mem_singleton.mp hp, L_tc]; exact Finset.mem_singleton_self _)
      (fun g u hg => by rcases hpos g u hg with ⟨p, rfl⟩ | ⟨p, rfl⟩ <;> exact Finset.mem_singleton_self _)
      (fun p hp => by rw [Finset.mem_singleton.mp hp]; exact (lv_none c hq _).le)
      (fun g u hg => by
        rcases hpos g u hg with ⟨p, rfl⟩ | ⟨p, rfl⟩
        · rw [lv_recv]; decide
        · rw [lv_bar]; decide)
  · rw [MayWait_zero]; iintro -; iempintro

omit [FloatOps F] in
/-- At its barrier a device owes blocks only: their cells lie above the barrier's. -/
theorem mayWait_bar (c : Dev nD) (n : ℕ) : (levAts L lv : sProp 𝕄) ⊢ MayWait (c : Thread nD τ) (.reg barS) () (oRecv c n) :=
  MayOwe.of_cut (L := L) (lev := lv) 1 (fun p hp => by rw [Finset.mem_singleton.mp hp, L_tc]; exact Finset.mem_singleton_self _)
    (fun g u hg => by obtain ⟨p, rfl⟩ := oRecv_pos hg; exact Finset.mem_singleton_self _)
    (fun p hp => by rw [Finset.mem_singleton.mp hp]; exact (lv_bar c _).le)
    (fun g u hg => by obtain ⟨p, rfl⟩ := oRecv_pos hg; rw [lv_recv]; decide)

end Cert.Exchange

end
-- ==== Proof.Steps.lean ====
/-
# One rule for each kind of step

The body repeats a few kinds of step: start a copy of `w`, signal a peer, fill a slot, send a slot, receive a slot, gather
it, wait for a copy of `w`, wait for a sent slot. Each is stated once, at any device and any index, from what the step
needs to what it leaves. A phase of equal steps is a family of resources of which the first `i` are in their later form.
-/
module

public import proofs.«01_k».proof.Proof.Schedule

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's program reaches `Q` from here. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) :
    wpc (F := F) c (.ret a) Q = iprop(|={Set.univ}[Idealize.ShloMosaic.frame]=> Q a) := rfl

/-! ## A family in two forms -/

/-- The members below `i` in their later form, the others in their earlier one. -/
def Mix {n : ℕ} (A B : Fin n → sProp 𝕄) (i : ℕ) : sProp 𝕄 :=
  bigSep Finset.univ fun k : Fin n => if k.val < i then B k else A k

omit [FloatOps F] in
theorem mix_zero {n : ℕ} (A B : Fin n → sProp 𝕄) : Mix A B 0 = bigSep Finset.univ A :=
  bigSep_congr fun k _ => if_neg (Nat.not_lt_zero _)
omit [FloatOps F] in
theorem mix_all {n : ℕ} (A B : Fin n → sProp 𝕄) : Mix A B n = bigSep Finset.univ B :=
  bigSep_congr fun k _ => if_pos k.isLt
omit [FloatOps F] in
/-- The next member may be taken out in its earlier form and put back in its later one. -/
theorem mix_step {n : ℕ} (A B : Fin n → sProp 𝕄) (k : Fin n) :
    (Mix A B k.val : sProp 𝕄) ⊢ iprop(A k ∗ (B k -∗ Mix A B (k.val + 1))) := by
  unfold Mix
  rw [bigSep_univ_at _ k, bigSep_univ_at (fun j : Fin n => if j.val < k.val + 1 then B j else A j) k,
    if_neg (Nat.lt_irrefl _), if_pos (Nat.lt_succ_self _),
    bigSep_congr (s := Finset.univ.erase k) (Φ := fun j : Fin n => if j.val < k.val then B j else A j)
      (Ψ := fun j : Fin n => if j.val < k.val + 1 then B j else A j) fun j hj => by
        have hne : j.val ≠ k.val := fun e => Finset.ne_of_mem_erase hj (Fin.ext e)
        by_cases h : j.val < k.val
        · rw [if_pos h, if_pos (by omega)]
        · rw [if_neg h, if_neg (by omega)]]
  iintro ⟨HA, HR⟩
  isplitl [HA]; · iexact HA
  iintro HB
  isplitl [HB] <;> iassumption

omit [FloatOps F] in
/-- A member in its later form may be looked at. -/
theorem mix_peek {n : ℕ} (A B : Fin n → sProp 𝕄) (k : Fin n) {i : ℕ} (h : k.val < i) :
    (Mix A B i : sProp 𝕄) ⊢ iprop(B k ∗ (B k -∗ Mix A B i)) := by
  unfold Mix
  rw [bigSep_univ_at _ k, if_pos h]
  iintro ⟨HB, HR⟩
  isplitl [HB]; · iexact HB
  iintro HB
  isplitl [HB] <;> iassumption

omit [FloatOps F] in
/-- Contents that agree on a set of elements, and equal sets, make equal ownership. -/
theorem pts_norm {ℓ : Loc nD τ sig} {S S' : Finset (Idx ℓ)} {f g : Buf (Elt F) ℓ} (hS : S = S') (h : ∀ i ∈ S, f i = g i) :
    (ℓ ↦[S]{fullShare} f : sProp 𝕄) = (ℓ ↦[S']{fullShare} g) := by
  subst hS; exact pointsTo_congr h

/-! ## Going round the mesh -/

/-- The devices other than `c`, from the next one on. -/
theorem others_eq (c : Dev nD) : Finset.univ.erase c = (Finset.univ : Finset (Fin 15)).image fun k => sh c (k.val + 1) := by
  revert c; decide
theorem others_inj (c : Dev nD) : ∀ k k' : Fin 15, sh c (k.val + 1) = sh c (k'.val + 1) → k = k' := by
  revert c; decide
omit [FloatOps F] in
theorem around_others (c : Dev nD) (A : Dev nD → sProp 𝕄) :
    bigSep (Finset.univ.erase c) A = bigSep (Finset.univ : Finset (Fin 15)) fun k => A (sh c (k.val + 1)) := by
  rw [others_eq, bigSep_image_of_injOn (fun k _ k' _ h => others_inj c k k' h)]

/-- The device whose block `c` takes at the `n`-th receive step. -/
def pr (c : Dev nD) (n : Fin 16) : Fin 16 := ⟨peer c (n.val / 4) (n.val % 4), peer_lt c (Nat.mod_lt _ (by decide))⟩
theorem pr_bijective (c : Dev nD) : Function.Bijective (pr c) := by revert c; decide
omit [FloatOps F] in
theorem around_peers (c : Dev nD) (A : Fin 16 → sProp 𝕄) : bigSep Finset.univ A = bigSep Finset.univ fun n => A (pr c n) :=
  bigSep_univ_equiv (Equiv.ofBijective _ (pr_bijective c)) A

/-! ## The records -/

section Records
variable (K : Dev nD × Cell → ℕ)

/-- Every cell's invariant, and that its round is open. -/
def records : sProp 𝕄 :=
  bigSep Finset.univ fun ck : Dev nD × Cell => iprop(cellInv ER (Rd m ρ) (K ck) (kcell ck) ∗ reached ER (kcell ck) 0)

instance records_persistent : BI.Persistent (records (F := F) m ρ K) := by unfold records; infer_instance

theorem records_at (ck : Dev nD × Cell) : records (F := F) m ρ K ⊢ iprop(cellInv ER (Rd m ρ) (K ck) (kcell ck) ∗ reached ER (kcell ck) 0) :=
  bigSep_elim (Finset.mem_univ ck)
theorem rec_bar (c : Dev nD) : records (F := F) m ρ K ⊢ iprop(cellInv ER (Rd m ρ) (K (c, cBar)) (barCell c) ∗ reached ER (barCell c) 0) := records_at m ρ K (c, cBar)
theorem rec_send (c : Dev nD) (d : Fin 16) : records (F := F) m ρ K ⊢ iprop(cellInv ER (Rd m ρ) (K (c, cSend d)) (sendCell c d) ∗ reached ER (sendCell c d) 0) :=
  records_at m ρ K (c, cSend d)
theorem rec_recv (c : Dev nD) (d : Fin 16) : records (F := F) m ρ K ⊢ iprop(cellInv ER (Rd m ρ) (K (c, cRecv d)) (recvCell c d) ∗ reached ER (recvCell c d) 0) :=
  records_at m ρ K (c, cRecv d)
theorem rec_w (c : Dev nD) (t : Fin 4) : records (F := F) m ρ K ⊢ iprop(cellInv ER (Rd m ρ) (K (c, cW t)) (wCell c t) ∗ reached ER (wCell c t) 0) :=
  records_at m ρ K (c, cW t)

end Records

/-- What a device owes, whatever waits it has behind it. -/
def ow (c : Dev nD) (O : CellTallies nD τ sig Unit) : sProp 𝕄 := iprop(∃ W, owes (c : Thread nD τ) O W)

/-! ## The resources of each phase -/

/-- To signal the device `k + 1` places on: the duty there and the slot of the own receiving buffer that device writes. -/
def sigTodo (c : Dev nD) (k : Fin 15) : sProp 𝕄 :=
  iprop(dutyTok ER (barCell (sh c (k.val + 1))) 0 c ∗ barPay (F := F) (sh c (k.val + 1)) c)
def sigSt (c : Dev nD) (i : ℕ) : sProp 𝕄 :=
  iprop(ow c (oRecv c 1 + oBar c (i + 1)) ∗ Mix (sigTodo (F := F) c) (fun _ => iprop(emp)) i)

/-- A slot of the sending buffer before and after it is filled. -/
def fillSt (c : Dev nD) (i : ℕ) : sProp 𝕄 :=
  Mix (fun d : Fin 16 => iprop(∃ f, sendPts c d.val f)) (fun d => sendPts c d.val (sendVal m ρ c)) i

/-- To send to the device `k + 1` places on: the filled slot, the slot it goes to, the two duties; afterwards the credit to wait with. -/
def sendTodo (c : Dev nD) (k : Fin 15) : sProp 𝕄 :=
  iprop((∃ f, commPts (F := F) (sh c (k.val + 1)) c.val f) ∗ sendPts c (sh c (k.val + 1)).val (sendVal m ρ c)
    ∗ dutyTok ER (sendCell c (sh c (k.val + 1))) 0 c ∗ dutyTok ER (recvCell (sh c (k.val + 1)) c) 0 c)
def sendFly (c : Dev nD) (k : Fin 15) : sProp 𝕄 := cred (tallyAt (sendCell c (sh c (k.val + 1))) () N)
def sendSt (c : Dev nD) (i : ℕ) : sProp 𝕄 :=
  iprop(ow c (oRecv c (i + 1)) ∗ Mix (sendTodo m ρ c) (sendFly (F := F) c) i)

/-- After waiting for it: the slot back and the semaphore at zero. -/
def sentTodo (c : Dev nD) (k : Fin 15) : sProp 𝕄 :=
  iprop(cred (tallyAt (sendCell c (sh c (k.val + 1))) () N) ∗ atPos ER (sendCell c (sh c (k.val + 1))) 0 ∅ 0)
def sentDone (c : Dev nD) (k : Fin 15) : sProp 𝕄 :=
  iprop(sendPts c (sh c (k.val + 1)).val (sendVal m ρ c) ∗ semVal (sendCell c (sh c (k.val + 1))) 0)
def sentSt (c : Dev nD) (i : ℕ) : sProp 𝕄 := Mix (sentTodo (F := F) c) (sentDone m ρ c) i

/-- A slot of the receiving buffer before and after its receive step; the own slot is filled from the start. -/
def recvTodo (c : Dev nD) (j : Fin 16) : sProp 𝕄 :=
  iprop(atPos ER (recvCell c j) 0 ∅ 0 ∗ if j = c then commPts c j.val (commVal m ρ c) else cred (tallyAt (recvCell c j) () N))
def recvDone (c : Dev nD) (j : Fin 16) : sProp 𝕄 := iprop(commPts c j.val (commVal m ρ c) ∗ semVal (recvCell c j) 0)
def recvSt (c : Dev nD) (i : ℕ) : sProp 𝕄 :=
  Mix (fun n => recvTodo m ρ c (pr c n)) (fun n => recvDone m ρ c (pr c n)) i

/-- The copy of `w` at turn `t`: not started, under way, done. -/
def wIdle (c : Dev nD) (t : Fin 4) : sProp 𝕄 :=
  iprop((∃ f, wbufPts (F := F) c t.val f) ∗ rowPts m c (grp c t.val) ∗ dutyTok ER (wCell c t) 0 c ∗ atPos ER (wCell c t) 0 ∅ 0)
def wFly (c : Dev nD) (t : Fin 4) : sProp 𝕄 := iprop(cred (tallyAt (wCell c t) () NW) ∗ atPos ER (wCell c t) 0 ∅ 0)
def wDone (c : Dev nD) (t : Fin 4) : sProp 𝕄 :=
  iprop(wbufPts c t.val (wVal m c) ∗ rowPts m c (grp c t.val) ∗ semVal (wCell c t) 0)

/-- The gathered operand with its first `n` blocks in place. -/
def xgSt (c : Dev nD) (n : ℕ) : sProp 𝕄 :=
  iprop(∃ f : Buf (Elt F) ((c : Thread nD τ).loc cc0_scratch3),
    ⌜∀ i : S4x128x512.Idx, 4 * (i 0).val + (i 2).val / 128 < n → f i = xgVal m ρ c i⌝ ∗ (((c : Thread nD τ).loc cc0_scratch3) ↦{fullShare} f))

def xPts (c : Dev nD) : sProp 𝕄 := ((c : Thread nD τ).loc cc0_stg0_0) ↦{fullShare} (xstg m ρ c : Buf (Elt F) ((c : Thread nD τ).loc cc0_stg0_0))

/-! ## A slot and a row block, as a transfer names them -/

abbrev wRows (off : Fin 2 → ℕ) (inb : ∀ a, off a + S512x2048.size a ≤ S2048x2048.size a) : Memref sig .tc .hbm S512x2048 .f32 :=
  wM.slice (Rect.unit (s := S2048x2048) off S512x2048.size inb) (fun _ => rfl)
abbrev wSlot (off : Fin 3 → ℕ) (inb : ∀ a, off a + S1x512x2048.size a ≤ S4x512x2048.size a) : Memref sig .tc .vmem S512x2048 .f32 :=
  (wbufM.slice (Rect.unit (s := S4x512x2048) off S1x512x2048.size inb) (fun _ => rfl)).squeeze S512x2048 squeezes_S1x512x2048_S512x2048
abbrev sendSlot (off : Fin 3 → ℕ) (inb : ∀ a, off a + S1x128x128.size a ≤ S16x128x128.size a) : Memref sig .tc .vmem S128x128 .bf16 :=
  (sendM.slice (Rect.unit (s := S16x128x128) off S1x128x128.size inb) (fun _ => rfl)).squeeze S128x128 squeezes_S1x128x128_S128x128
abbrev commSlot (off : Fin 3 → ℕ) (inb : ∀ a, off a + S1x128x128.size a ≤ S16x128x128.size a) : Memref sig .tc .vmem S128x128 .bf16 :=
  (commM.slice (Rect.unit (s := S16x128x128) off S1x128x128.size inb) (fun _ => rfl)).squeeze S128x128 squeezes_S1x128x128_S128x128

theorem wRows_set {g : ℕ} {off : Fin 2 → ℕ} (h : off = ![512 * g, 0]) (inb) : (wRows off inb).view.set = rows g :=
  (View.set_slice_whole _ _).trans (rows_rect h inb)
theorem wSlot_set {d : ℕ} {off : Fin 3 → ℕ} (h : off = ![d, 0, 0]) (inb) : (wSlot off inb).view.set = slot d :=
  (Memref.set_view_squeeze _ _).trans ((View.set_slice_whole _ _).trans (slot_rect h inb))
theorem sendSlot_set {d : ℕ} {off : Fin 3 → ℕ} (h : off = ![d, 0, 0]) (inb) : (sendSlot off inb).view.set = slot d :=
  (Memref.set_view_squeeze _ _).trans ((View.set_slice_whole _ _).trans (slot_rect h inb))
theorem commSlot_set {d : ℕ} {off : Fin 3 → ℕ} (h : off = ![d, 0, 0]) (inb) : (commSlot off inb).view.set = slot d :=
  (Memref.set_view_squeeze _ _).trans ((View.set_slice_whole _ _).trans (slot_rect h inb))

theorem wSlot_credit (off : Fin 3 → ℕ) (inb) : (wSlot off inb).view.dmaCredit = NW := rfl
theorem commSlot_credit (off : Fin 3 → ℕ) (inb) : (commSlot off inb).view.dmaCredit = N := rfl
theorem sendSlot_credit (off : Fin 3 → ℕ) (inb) : (sendSlot off inb).view.dmaCredit = N := rfl

omit [FloatOps F] in
theorem rowPts_eq (c : Dev nD) {g : ℕ} {off : Fin 2 → ℕ} (h : off = ![512 * g, 0]) (inb) :
    (rowPts m c g : sProp 𝕄) = ((wRows off inb).view.loc (c : Thread nD τ) ↦[(wRows off inb).view.set]{fullShare} warr m c) :=
  (pts_norm (wRows_set h inb) fun _ _ => rfl).symm
omit [FloatOps F] in
theorem wbufPts_eq (c : Dev nD) {d : ℕ} {off : Fin 3 → ℕ} (h : off = ![d, 0, 0]) (inb) (f) :
    (wbufPts c d f : sProp 𝕄) = ((wSlot off inb).view.loc (c : Thread nD τ) ↦[(wSlot off inb).view.set]{fullShare} f) :=
  (pts_norm (wSlot_set h inb) fun _ _ => rfl).symm
omit [FloatOps F] in
theorem sendPts_eq (c : Dev nD) {d : ℕ} {off : Fin 3 → ℕ} (h : off = ![d, 0, 0]) (inb) (f) :
    (sendPts c d f : sProp 𝕄) = ((sendSlot off inb).view.loc (c : Thread nD τ) ↦[(sendSlot off inb).view.set]{fullShare} f) :=
  (pts_norm (sendSlot_set h inb) fun _ _ => rfl).symm
omit [FloatOps F] in
theorem commPts_eq (c : Dev nD) {d : ℕ} {off : Fin 3 → ℕ} (h : off = ![d, 0, 0]) (inb) (f) :
    (commPts c d f : sProp 𝕄) = ((commSlot off inb).view.loc (c : Thread nD τ) ↦[(commSlot off inb).view.set]{fullShare} f) :=
  (pts_norm (commSlot_set h inb) fun _ _ => rfl).symm

/-- A copy of a group's rows to a slot leaves the buffer's contents there. -/
theorem wSlot_written (c : Dev nD) (t : Fin 4) {off : Fin 2 → ℕ} {off' : Fin 3 → ℕ} (h : off = ![512 * grp c t.val, 0]) (h' : off' = ![t.val, 0, 0]) (inb) (inb') (f) :
    ((wSlot off' inb').view.loc (c : Thread nD τ) ↦[(wSlot off' inb').view.set]{fullShare}
        ((wSlot off' inb').view.write (Elt F) f ((wRows off inb).view.read (Elt F) (warr m c)) Finset.univ) : sProp 𝕄)
      = wbufPts c t.val (wVal m c) :=
  pts_norm (wSlot_set h' inb') (move_rows t.isLt (grp_lt c t.val) (View.whole main_arg1) (View.whole cc0_scratch2) h h' inb inb' _ _ _ fun _ _ => rfl)
/-- A transfer of the slot meant for `p` to the sender's slot there leaves the contents of `p`'s receiving buffer. -/
theorem commSlot_written (c p : Dev nD) {off : Fin 3 → ℕ} {off' : Fin 3 → ℕ} (h : off = ![p.val, 0, 0]) (h' : off' = ![c.val, 0, 0]) (inb) (inb') (f) :
    ((commSlot off' inb').view.loc (p : Thread nD τ) ↦[(commSlot off' inb').view.set]{fullShare}
        ((commSlot off' inb').view.write (Elt F) f ((sendSlot off inb).view.read (Elt F) (sendVal m ρ c)) Finset.univ) : sProp 𝕄)
      = commPts p c.val (commVal m ρ p) :=
  pts_norm (commSlot_set h' inb') (move_slot p.isLt c.isLt squeezes_S1x128x128_S128x128 (View.whole cc0_scratch0) (View.whole cc0_scratch1) h h' inb inb' _ _ _ fun _ _ => rfl)

/-! ## The steps -/

section Steps
variable (K : Dev nD × Cell → ℕ) (c : Dev nD)

/-- A signal to the device `i + 1` places on. -/
theorem step_signal {α : Type} {Q : α → sProp 𝕄} {k : PUnit → Prog (TpuEff nD τ sig (Elt F) Λ₀ .tc) α} (i : Fin 15) {dst : Dev nD} (hdst : dst = sh c (i.val + 1)) {x : ℤ} (hx : ((1 : ℕ) : ℤ) = x) :
    records m ρ K ⊢ iprop(sigSt (F := F) c i.val -∗ (sigSt (F := F) c (i.val + 1) -∗ wpc c (k ⟨⟩) Q) -∗ wpc c (.op (.semSignal (dst : Thread nD τ) barS x) k) Q) := by
  subst hdst; subst hx
  unfold sigSt ow
  iintro #HR ⟨⟨%W, HO⟩, HM⟩ Hk
  ihave #Hrec := (rec_bar m ρ K (sh c (i.val + 1))) $$ HR
  icases Hrec with ⟨#HI, #Hr⟩
  ihave HM' := (mix_step _ _ i) $$ HM
  icases HM' with ⟨Hd, HM⟩
  unfold sigTodo
  icases Hd with ⟨Ht, Hp⟩
  have hlt : i.val + 1 < 16 := by have := i.isLt; omega
  have hd : c ∈ (Rd (F := F) m ρ).duties (barCell (sh c (i.val + 1))) 0 := by
    rw [duties_bar]; exact Finset.mem_erase.mpr ⟨(sh_ne c (Nat.succ_pos _) hlt).symm, Finset.mem_univ _⟩
  have hO : oRecv c 1 + oBar c (i.val + 1) = (oRecv c 1 + oBar c (i.val + 1 + 1)) + tallyAt (barCell (sh c (i.val + 1))) () 1 := by
    rw [oBar_step c hlt, add_assoc (oRecv c 1)]
  iapply (Rounds.wp_signal 𝒱₀ ER (Rd m ρ) (c : Thread nD τ) none (dst := (sh c (i.val + 1) : Thread nD τ)) (κ := K (sh c (i.val + 1), cBar))
      (sem := barS) (r := 0) (d := c) hd (amount_bar m ρ _ c) () _ hO) $$ [HO Ht Hp]
  · isplitr; · iexact HI
    isplitl [HO]; · iexact HO
    isplitl [Ht]; · iexact Ht
    isplitl [Hp]; · rw [payload_bar]; iexact Hp
    iexact Hr
  iintro HO
  iapply Hk
  isplitl [HO]; · iexists W; iexact HO
  iapply HM; iempintro

/-- A copy of `w` starts: the rows of the group of turn `t` to slot `t`. -/
theorem step_w {α : Type} {Q : α → sProp 𝕄} {k : PUnit → Prog (TpuEff nD τ sig (Elt F) Λ₀ .tc) α}
    (t : Fin 4) {off : Fin 2 → ℕ} {off' : Fin 3 → ℕ} (h : off = ![512 * grp c t.val, 0]) (h' : off' = ![t.val, 0, 0])
    {inb : ∀ a, off a + S512x2048.size a ≤ S2048x2048.size a} {inb' : ∀ a, off' a + S1x512x2048.size a ≤ S4x512x2048.size a} {sm : DmaSem sig} (hs : sm = dsem (ownW t)) {hsrc : (wRows off inb).view.WordExact}
    {hdst : (wSlot off' inb').view.WordExact} {hsem} :
    records m ρ K ⊢ iprop(wIdle m c t -∗ (wFly (F := F) c t -∗ wpc c (k ⟨⟩) Q) -∗ wpc c (.op (.enqueueDma (wRows off inb) (.here (wSlot off' inb')) (.dma sm) hsrc hdst hsem) k) Q) := by
  subst hs
  unfold wIdle wFly
  iintro #HR ⟨⟨%f, Hb⟩, Hrow, Ht, Hat⟩ Hk
  ihave #Hrec := (rec_w m ρ K c t) $$ HR
  icases Hrec with ⟨#HI, #Hr⟩
  ihave Hrow := (Entails.of_eq (rowPts_eq m c h inb)) $$ Hrow
  ihave Hb := (Entails.of_eq (wbufPts_eq c h' inb' f)) $$ Hb
  have hd : c ∈ (Rd (F := F) m ρ).duties (wCell c t) 0 := by rw [duties_w]; exact Finset.mem_singleton_self _
  have hpay : iprop(((wSlot off' inb').view.loc (c : Thread nD τ) ↦[(wSlot off' inb').view.set]{fullShare}
        ((wSlot off' inb').view.write (Elt F) f ((wRows off inb).view.read (Elt F) (warr m c)) Finset.univ))
      ∗ ((wRows off inb).view.loc (c : Thread nD τ) ↦[(wRows off inb).view.set]{fullShare} warr m c)) ⊢ (Rd (F := F) m ρ).payload (wCell c t) 0 c := by
    rw [payload_w, wSlot_written m c t h h', ← rowPts_eq m c h]
  iapply (Rounds.wp_copy_pointsTo 𝒱₀ ER (Rd m ρ) (c : Thread nD τ) none (src := wRows off inb) (dst := wSlot off' inb') (sem := .dma (dsem (ownW t)))
      (κ := K (c, cW t)) (r := 0) (d := c) (fs := warr m c) (fd := f) hd () NW (wSlot_credit off' inb') (amount_w m ρ c t c) hpay) $$ [Hrow Hb Ht]
  · isplitr; · iexact HI
    isplitl [Hrow]; · iexact Hrow
    isplitl [Hb]; · iexact Hb
    isplitl [Ht]; · iexact Ht
    iexact Hr
  iintro Hc
  iapply Hk
  isplitl [Hc] <;> iassumption

/-- The wait at the barrier: every other device has arrived and gives the slot it keeps for this one. -/
theorem step_bar {α : Type} {Q : α → sProp 𝕄} {k : PUnit → Prog (TpuEff nD τ sig (Elt F) Λ₀ .tc) α} {x : ℤ} (hx : ((15 : ℕ) : ℤ) = x) :
    records m ρ K ⊢ iprop(levAts L lv -∗ cred (tallyAt (barCell c) () 15) -∗ atPos ER (barCell c) 0 ∅ 0 -∗ ow (F := F) c (oRecv c 1)
      -∗ ((ow (F := F) c (oRecv c 1) ∗ semVal (barCell c) 0 ∗ bigSep (Finset.univ : Finset (Fin 15)) fun j => barPay (F := F) c (sh c (j.val + 1)))
          -∗ wpc c (k ⟨⟩) Q)
      -∗ wpc c (.op (.semWait barS x) k) Q) := by
  subst hx
  unfold ow
  iintro #HR #Hlev Hc Hat ⟨%W, HO⟩ Hk
  ihave #Hrec := (rec_bar m ρ K c) $$ HR
  icases Hrec with ⟨#HI, #Hr⟩
  have hk : 0 + 15 = (Rd (F := F) m ρ).expect (barCell c) 0 := by rw [expect_bar]
  iapply (Rounds.wp_wait_rest_token 𝒱₀ ER (Rd m ρ) (c : Thread nD τ) none (κ := K (c, cBar)) (sm := .reg barS) (k' := 15)
      (wpE_semWait_eq 𝒱₀ (c : Thread nD τ) none Set.univ) (Set.mem_univ _) () (O := oRecv c 1) (W := W) (R := 0) (m := 0) (T := ∅) hk) $$ [Hc HO Hat]
  · isplitr; · iexact HI
    isplitl [Hc]; · iexact Hc
    isplitl [HO]; · iexact HO
    isplitr; · iapply (mayWait_bar c 1); iexact Hlev
    iexact Hat
  iintro ⟨HO, Hat, -, Hpay⟩
  ihave Hp := (Entails.of_eq ((rest_bar m ρ c).trans (around_others c _))) $$ Hpay
  imod (Rounds.cell_close ER (Rd m ρ) (Set.mem_univ (K (c, cBar))) (fun h => h) (R := 0 + 1) (duties_later m ρ (barCell c))) $$ [Hat] with Hz
  · isplitr; · iexact HI
    iexact Hat
  iapply Hk
  isplitl [HO]; · iexists _; iexact HO
  isplitl [Hz] <;> iassumption

/-- A slot is filled: what is stored must read as the rows meant for its device. -/
theorem step_fill {α : Type} {Q : α → sProp 𝕄} {k : PUnit → Prog (TpuEff nD τ sig (Elt F) Λ₀ .tc) α} (d : Fin 16) {off : Fin 3 → ℕ} (h : off = ![d.val, 0, 0])
    {inb : ∀ a, off a + S1x128x128.size a ≤ S16x128x128.size a} {hl} {hx} {hm} {w : S1x128x128.Idx → Elt F .bf16}
    (hw : ∀ x : S1x128x128.Idx, sendVal m ρ c (ix3 d (x 1) (x 2)) = w x) :
    fillSt m ρ c d.val ⊢ iprop((fillSt m ρ c (d.val + 1) -∗ wpc c (k ⟨⟩) Q)
      -∗ wpc c (.op (.load sendM (Rect.unit (s := S16x128x128) off S1x128x128.size inb).toLoadRect hl) fun _ =>
          .op (.store sendM (Rect.unit (s := S16x128x128) off S1x128x128.size inb) w Finset.univ hx hm) k) Q) := by
  unfold fillSt
  iintro HM Hk
  ihave HM' := (mix_step _ _ d) $$ HM
  icases HM' with ⟨⟨%f, Hs⟩, HM⟩
  unfold sendPts
  have hset : (sendM.access (Rect.unit (s := S16x128x128) off S1x128x128.size inb)).set = slot d.val :=
    (View.set_slice_whole _ _).trans (slot_rect h inb)
  iapply (wp_load_rect 𝒱₀ (c : Thread nD τ) none Set.univ (m := sendM) (r := Rect.unit (s := S16x128x128) off S1x128x128.size inb) hset.subset) $$ Hs
  iintro Hs
  iapply (wp_store 𝒱₀ (c : Thread nD τ) none Set.univ (m := sendM) (r := Rect.unit (s := S16x128x128) off S1x128x128.size inb) (Mk := Finset.univ) hset.subset) $$ Hs
  iintro Hs
  iapply Hk
  iapply HM
  have heq : (((c : Thread nD τ).loc cc0_scratch0) ↦[(slot d.val : Finset S16x128x128.Idx)]{fullShare}
      ((sendM.access (Rect.unit (s := S16x128x128) off S1x128x128.size inb)).write (Elt F) f w Finset.univ) : sProp 𝕄)
      = (((c : Thread nD τ).loc cc0_scratch0) ↦[(slot d.val : Finset S16x128x128.Idx)]{fullShare} sendVal m ρ c) :=
    pts_norm rfl fun i hi => write_slot d.isLt (View.whole cc0_scratch0) h inb f (sendVal m ρ c) w hw i (hset.symm ▸ hi)
  iapply (Entails.of_eq heq)
  iexact Hs

/-- A row block of the staged `x` is loaded. -/
theorem step_xrows {α : Type} {Q : α → sProp 𝕄} {k : (S128x128.Idx → Elt F .f32) → Prog (TpuEff nD τ sig (Elt F) Λ₀ .tc) α} (d : ℕ) (hd : d < 16) {off : Fin 2 → ℕ} (h : off = ![128 * d, 0])
    {inb : ∀ a, off a + S128x128.size a ≤ S2048x128.size a} {hl} :
    xPts m ρ c ⊢ iprop((xPts m ρ c -∗ wpc c (k (xrows m ρ c d hd)) Q)
      -∗ wpc c (.op (.load xM (Rect.unit (s := S2048x128) off S128x128.size inb).toLoadRect hl) k) Q) := by
  unfold xPts
  iintro Hx Hk
  have hv : (xM.access (Rect.unit (s := S2048x128) off S128x128.size inb)).read (Elt F) (xstg m ρ c) = xrows m ρ c d hd := by
    subst h
    funext y
    refine congrArg (xstg m ρ c) ?_
    funext a
    match a with
    | ⟨0, _⟩ => exact Fin.ext (ValueKit.rect_emb_unit_val (s := S2048x128) _ _ _ _ 0)
    | ⟨1, _⟩ => exact Fin.ext ((ValueKit.rect_emb_unit_val (s := S2048x128) _ _ _ _ 1).trans (Nat.zero_add _))
  iapply (wp_load_rect 𝒱₀ (c : Thread nD τ) none Set.univ (m := xM) (r := Rect.unit (s := S2048x128) off S128x128.size inb) (Finset.subset_univ _)) $$ Hx
  iintro Hx
  rw [← hv]
  iapply Hk
  iexact Hx

/-- What a load of one slot reads. -/
theorem slot_read {a b e' : ℕ} {e : EltTy} {d : ℕ} (hd : d < a) {sp : Space} (v : View sig .tc sp (⟨3, ![a, b, e']⟩ : Shape) e) {off : Fin 3 → ℕ} (h : off = ![d, 0, 0]) (inb)
    (f : v.ty.Contents (Elt F)) :
    (v.slice (Rect.unit (s := (⟨3, ![a, b, e']⟩ : Shape)) off (![1, b, e'] : Fin 3 → ℕ) inb)).read (Elt F) f
      = fun x : (⟨3, ![1, b, e']⟩ : Shape).Idx => v.read (Elt F) f (ix3 (⟨d, hd⟩ : Fin a) (x 1) (x 2)) :=
  funext fun x => congrArg (v.read (Elt F) f) (slot_emb hd h inb x)

/-- The own slot goes from the sending to the receiving buffer without a transfer. -/
theorem step_own {α : Type} {Q : α → sProp 𝕄} {k : PUnit → Prog (TpuEff nD τ sig (Elt F) Λ₀ .tc) α} {off : Fin 3 → ℕ} (h : off = ![c.val, 0, 0])
    {inb : ∀ a, off a + S1x128x128.size a ≤ S16x128x128.size a} {hl} {hl'} {hx} {hm}
    {w : (S1x128x128.Idx → Elt F .bf16) → S1x128x128.Idx → Elt F .bf16} (hw : ∀ v, w v = v) :
    sendPts c c.val (sendVal m ρ c) ⊢ iprop((∃ f, commPts c c.val f)
      -∗ ((sendPts c c.val (sendVal m ρ c) ∗ commPts c c.val (commVal m ρ c)) -∗ wpc c (k ⟨⟩) Q)
      -∗ wpc c (.op (.load sendM (Rect.unit (s := S16x128x128) off S1x128x128.size inb).toLoadRect hl) fun v =>
          .op (.load commM (Rect.unit (s := S16x128x128) off S1x128x128.size inb).toLoadRect hl') fun _ =>
          .op (.store commM (Rect.unit (s := S16x128x128) off S1x128x128.size inb) (w v) Finset.univ hx hm) k) Q) := by
  unfold sendPts commPts
  iintro Hs ⟨%f, Hc⟩ Hk
  have hset : (sendM.access (Rect.unit (s := S16x128x128) off S1x128x128.size inb)).set = slot c.val :=
    (View.set_slice_whole _ _).trans (slot_rect h inb)
  have hset' : (commM.access (Rect.unit (s := S16x128x128) off S1x128x128.size inb)).set = slot c.val :=
    (View.set_slice_whole _ _).trans (slot_rect h inb)
  iapply (wp_load_rect 𝒱₀ (c : Thread nD τ) none Set.univ (m := sendM) (r := Rect.unit (s := S16x128x128) off S1x128x128.size inb) hset.subset) $$ Hs
  iintro Hs
  iapply (wp_load_rect 𝒱₀ (c : Thread nD τ) none Set.univ (m := commM) (r := Rect.unit (s := S16x128x128) off S1x128x128.size inb) hset'.subset) $$ Hc
  iintro Hc
  iapply (wp_store 𝒱₀ (c : Thread nD τ) none Set.univ (m := commM) (r := Rect.unit (s := S16x128x128) off S1x128x128.size inb) (Mk := Finset.univ) hset'.subset) $$ Hc
  iintro Hc
  iapply Hk
  isplitl [Hs]; · iexact Hs
  have heq : (((c : Thread nD τ).loc cc0_scratch1) ↦[(slot c.val : Finset S16x128x128.Idx)]{fullShare}
      ((commM.access (Rect.unit (s := S16x128x128) off S1x128x128.size inb)).write (Elt F) f
        (w ((sendM.access (Rect.unit (s := S16x128x128) off S1x128x128.size inb)).read (Elt F) (sendVal m ρ c))) Finset.univ) : sProp 𝕄)
      = (((c : Thread nD τ).loc cc0_scratch1) ↦[(slot c.val : Finset S16x128x128.Idx)]{fullShare} commVal m ρ c) :=
    pts_norm rfl fun i hi => write_slot c.isLt (View.whole cc0_scratch1) h inb f (commVal m ρ c) _
      (fun x => by
        rw [hw]
        exact (congrFun (slot_read c.isLt (View.whole cc0_scratch0) h inb (sendVal m ρ c)) x).symm) i (hset'.symm ▸ hi)
  iapply (Entails.of_eq heq)
  iexact Hc

/-- A slot is sent to the device `i + 1` places on. -/
theorem step_send {α : Type} {Q : α → sProp 𝕄} {k : PUnit → Prog (TpuEff nD τ sig (Elt F) Λ₀ .tc) α} (i : Fin 15) {n : Dev nD} (hn : n = sh c (i.val + 1))
    {off off' : Fin 3 → ℕ} (h : off = ![(sh c (i.val + 1)).val, 0, 0]) (h' : off' = ![c.val, 0, 0])
    {inb : ∀ a, off a + S1x128x128.size a ≤ S16x128x128.size a} {inb' : ∀ a, off' a + S1x128x128.size a ≤ S16x128x128.size a}
    {sS sR : DmaSem sig} (hS : sS = dsem (ownSend (sh c (i.val + 1)))) (hR : sR = dsem (ownRecv c)) {hsc} {hsrc} {hdst} {hsem} :
    records m ρ K ⊢ iprop(sendSt m ρ c i.val -∗ (sendSt m ρ c (i.val + 1) -∗ wpc c (k ⟨⟩) Q)
      -∗ wpc c (.op (.enqueueDma (sendSlot off inb) (.remote (Dev.tc n : Thread nD τ) (commSlot off' inb') (.dma sS) hsc) (.dma sR) hsrc hdst hsem) k) Q) := by
  subst hn; subst hS; subst hR
  unfold sendSt ow
  iintro #HR ⟨⟨%W, HO⟩, HM⟩ Hk
  ihave #Hrec := (rec_send m ρ K c (sh c (i.val + 1))) $$ HR
  icases Hrec with ⟨#HI₁, #Hr₁⟩
  ihave #Hrec' := (rec_recv m ρ K (sh c (i.val + 1)) c) $$ HR
  icases Hrec' with ⟨#HI₂, #Hr₂⟩
  ihave HM' := (mix_step _ _ i) $$ HM
  icases HM' with ⟨Hd, HM⟩
  unfold sendTodo
  icases Hd with ⟨⟨%f, Hc⟩, Hs, Ht₁, Ht₂⟩
  ihave Hs := (Entails.of_eq (sendPts_eq c h inb (sendVal m ρ c))) $$ Hs
  ihave Hc := (Entails.of_eq (commPts_eq (sh c (i.val + 1)) h' inb' f)) $$ Hc
  have hlt : i.val + 1 < 16 := by have := i.isLt; omega
  have hne : sh c (i.val + 1) ≠ c := sh_ne c (Nat.succ_pos _) hlt
  have hd₁ : c ∈ (Rd (F := F) m ρ).duties (sendCell c (sh c (i.val + 1))) 0 := by
    rw [duties_send m ρ c hne]; exact Finset.mem_singleton_self _
  have hd₂ : c ∈ (Rd (F := F) m ρ).duties (recvCell (sh c (i.val + 1)) c) 0 := by
    rw [duties_recv m ρ (sh c (i.val + 1)) hne.symm]; exact Finset.mem_singleton_self _
  have hO : oRecv c (i.val + 1) = oRecv c (i.val + 1 + 1) + tallyAt (recvCell (sh c (i.val + 1)) c) () N := oRecv_step c hlt
  have hpay₁ : ((sendSlot off inb).view.loc (c : Thread nD τ) ↦[(sendSlot off inb).view.set]{fullShare} sendVal m ρ c)
      ⊢ (Rd (F := F) m ρ).payload (sendCell c (sh c (i.val + 1))) 0 c := by
    rw [payload_send, ← sendPts_eq c h]
  have hpay₂ : ((commSlot off' inb').view.loc (sh c (i.val + 1) : Thread nD τ) ↦[(commSlot off' inb').view.set]{fullShare}
        ((commSlot off' inb').view.write (Elt F) f ((sendSlot off inb).view.read (Elt F) (sendVal m ρ c)) Finset.univ))
      ⊢ (Rd (F := F) m ρ).payload (recvCell (sh c (i.val + 1)) c) 0 c := by
    rw [payload_recv, commSlot_written m ρ c (sh c (i.val + 1)) h h']
  iapply (Rounds.wp_send_pointsTo 𝒱₀ ER (Rd m ρ) (c : Thread nD τ) none (c' := (sh c (i.val + 1) : Thread nD τ)) (src := sendSlot off inb) (dst := commSlot off' inb')
      (sS := .dma (dsem (ownSend (sh c (i.val + 1))))) (sem := .dma (dsem (ownRecv c)))
      (κ₁ := K (c, cSend (sh c (i.val + 1)))) (κ₂ := K (sh c (i.val + 1), cRecv c)) (r₁ := 0) (r₂ := 0) (d₁ := c) (d₂ := c) (fs := sendVal m ρ c) (fd := f)
      hd₁ hd₂ () () N (commSlot_credit off' inb') (amount_send m ρ c _ c) (amount_recv m ρ _ c c) (oRecv c (i.val + 1 + 1)) hO (W := W) hpay₁ hpay₂)
    $$ [HO Hs Hc Ht₁ Ht₂]
  · isplitr; · iexact HI₁
    isplitr; · iexact HI₂
    isplitl [Hs]; · iexact Hs
    isplitl [Hc]; · iexact Hc
    isplitl [HO]; · iexact HO
    isplitl [Ht₁]; · iexact Ht₁
    isplitr; · iexact Hr₁
    isplitl [Ht₂]; · iexact Ht₂
    iexact Hr₂
  iintro ⟨Hcr, HO⟩
  iapply Hk
  isplitl [HO]; · iexists W; iexact HO
  iapply HM; unfold sendFly; iexact Hcr

/-- A wait on an own semaphore for the whole of its round, owing nothing: the cell closes. -/
theorem wait_close {α : Type} {Q : α → sProp 𝕄} {k : PUnit → Prog (TpuEff nD τ sig (Elt F) Λ₀ .tc) α} (o : Cell) {q : DmaSem sig} (ho : kcell (c, o) = ((c : Thread nD τ), .dma q)) {sp sp' : Space} {s s' : Shape} {e e' : EltTy}
    {src : Memref sig .tc sp' s' e'} {dst : Memref sig .tc sp s e} {hsrc : src.view.WordExact} {hdst : dst.view.WordExact}
    {n : ℕ} (hn : dst.view.dmaCredit = n) (he : (Rd (F := F) m ρ).expect ((c : Thread nD τ), .dma q) 0 = n)
    {P : sProp 𝕄} (hP : bigSep ((Rd (F := F) m ρ).duties ((c : Thread nD τ), .dma q) 0 \ ∅) (fun j => (Rd (F := F) m ρ).payload ((c : Thread nD τ), .dma q) 0 j) = P) :
    records m ρ K ⊢ iprop(ow (F := F) c 0 -∗ cred (tallyAt ((c : Thread nD τ), .dma q) () n) -∗ atPos ER ((c : Thread nD τ), .dma q) 0 ∅ 0
      -∗ ((ow (F := F) c 0 ∗ P ∗ semVal ((c : Thread nD τ), .dma q) 0) -∗ wpc c (k ⟨⟩) Q)
      -∗ wpc c (.op (.waitDma2 q src dst hsrc hdst) k) Q) := by
  subst hn
  unfold ow
  iintro #HR ⟨%W, HO⟩ Hc Hat Hk
  ihave #Hrec := (records_at m ρ K (c, o)) $$ HR
  rw [ho]
  icases Hrec with ⟨#HI, #Hr⟩
  have hk : 0 + dst.view.dmaCredit = (Rd (F := F) m ρ).expect ((c : Thread nD τ), .dma q) 0 := by rw [Nat.zero_add, he]
  iapply (Rounds.wp_wait_rest_token 𝒱₀ ER (Rd m ρ) (c : Thread nD τ) none (κ := K (c, o)) (sm := .dma q) (k' := dst.view.dmaCredit)
      (wpE_waitDma2_eq 𝒱₀ (c : Thread nD τ) none Set.univ) (Set.mem_univ _) () (O := 0) (W := W) (R := 0) (m := 0) (T := ∅) hk) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq hP) $$ Hpay
  imod (Rounds.cell_close ER (Rd m ρ) (Set.mem_univ (K (c, o))) (fun h => h) (R := 0 + 1) (duties_later m ρ ((c : Thread nD τ), .dma q))) $$ [Hat] with Hz
  · isplitr; · iexact HI
    iexact Hat
  iapply Hk
  isplitl [HO]; · iexists _; iexact HO
  isplitl [Hp] <;> iassumption

/-- A sent slot comes back. -/
theorem step_sent {α : Type} {Q : α → sProp 𝕄} {k : PUnit → Prog (TpuEff nD τ sig (Elt F) Λ₀ .tc) α} (i : Fin 15) {q : DmaSem sig} (hq : q = dsem (ownSend (sh c (i.val + 1)))) {off : Fin 3 → ℕ} {off' : Fin 3 → ℕ}
    {inb : ∀ a, off a + S1x128x128.size a ≤ S16x128x128.size a} {inb' : ∀ a, off' a + S1x128x128.size a ≤ S16x128x128.size a} {hsrc} {hdst} :
    records m ρ K ⊢ iprop(ow (F := F) c 0 -∗ sentSt m ρ c i.val -∗ ((ow (F := F) c 0 ∗ sentSt m ρ c (i.val + 1)) -∗ wpc c (k ⟨⟩) Q)
      -∗ wpc c (.op (.waitDma2 q (commSlot off' inb') (sendSlot off inb) hsrc hdst) k) Q) := by
  subst hq
  unfold sentSt
  iintro #HR HO HM Hk
  ihave HM' := (mix_step _ _ i) $$ HM
  icases HM' with ⟨Hd, HM⟩
  unfold sentTodo
  icases Hd with ⟨Hc, Hat⟩
  have hlt : i.val + 1 < 16 := by have := i.isLt; omega
  have hne : sh c (i.val + 1) ≠ c := sh_ne c (Nat.succ_pos _) hlt
  iapply (wait_close m ρ K c (cSend (sh c (i.val + 1))) (q := dsem (ownSend (sh c (i.val + 1)))) rfl (sendSlot_credit off inb) (expect_send m ρ c hne) (rest_send m ρ c hne)) $$ HR HO Hc Hat
  iintro ⟨HO, Hs, Hz⟩
  iapply Hk
  isplitl [HO]; · iexact HO
  iapply HM
  unfold sentDone
  isplitl [Hs] <;> iassumption

/-- The copy of `w` of turn `t` is done. -/
theorem step_w_wait {α : Type} {Q : α → sProp 𝕄} {k : PUnit → Prog (TpuEff nD τ sig (Elt F) Λ₀ .tc) α} (t : Fin 4) {q : DmaSem sig} (hq : q = dsem (ownW t)) {off : Fin 2 → ℕ} {off' : Fin 3 → ℕ}
    {inb : ∀ a, off a + S512x2048.size a ≤ S2048x2048.size a} {inb' : ∀ a, off' a + S1x512x2048.size a ≤ S4x512x2048.size a} {hsrc} {hdst} :
    records m ρ K ⊢ iprop(ow (F := F) c 0 -∗ wFly (F := F) c t -∗ ((ow (F := F) c 0 ∗ wDone m c t) -∗ wpc c (k ⟨⟩) Q)
      -∗ wpc c (.op (.waitDma2 q (wRows off inb) (wSlot off' inb') hsrc hdst) k) Q) := by
  subst hq
  unfold wFly wDone
  iintro #HR HO ⟨Hc, Hat⟩ Hk
  iapply (wait_close m ρ K c (cW t) (q := dsem (ownW t)) rfl (wSlot_credit off' inb') (expect_w m ρ c t) (rest_w m ρ c t)) $$ HR HO Hc Hat
  iintro ⟨HO, ⟨Hs, Hrow⟩, Hz⟩
  iapply Hk
  isplitl [HO]; · iexact HO
  isplitl [Hs]; · iexact Hs
  isplitl [Hrow] <;> iassumption

theorem recvTodo_ne {j : Fin 16} (h : j ≠ c) :
    recvTodo m ρ c j = iprop(atPos ER (recvCell c j) 0 ∅ 0 ∗ cred (tallyAt (recvCell c j) () N)) := by
  unfold recvTodo; rw [if_neg h]
theorem recvTodo_self {j : Fin 16} (h : j = c) :
    recvTodo m ρ c j = iprop(atPos ER (recvCell c c) 0 ∅ 0 ∗ commPts c c.val (commVal m ρ c)) := by
  subst h; unfold recvTodo; rw [if_pos rfl]

/-- A choice between two programs, kept folded. -/
@[irreducible] def choose {α : Type} (cond : Prop) [Decidable cond] (A : cond → Prog (TpuEff nD τ sig (Elt F) Λ₀ .tc) α)
    (B : Prog (TpuEff nD τ sig (Elt F) Λ₀ .tc) α) : Prog (TpuEff nD τ sig (Elt F) Λ₀ .tc) α := dite cond A fun _ => B
theorem choose_eq {α : Type} (cond : Prop) [Decidable cond] (A : cond → Prog (TpuEff nD τ sig (Elt F) Λ₀ .tc) α)
    (B : Prog (TpuEff nD τ sig (Elt F) Λ₀ .tc) α) : (dite cond A fun _ => B) = choose cond A B := by unfold choose; rfl
theorem choose_pos {α : Type} {cond : Prop} [Decidable cond] {A : cond → Prog (TpuEff nD τ sig (Elt F) Λ₀ .tc) α}
    {B : Prog (TpuEff nD τ sig (Elt F) Λ₀ .tc) α} (h : cond) : choose cond A B = A h := by unfold choose; exact dif_pos h
theorem choose_neg {α : Type} {cond : Prop} [Decidable cond] {A : cond → Prog (TpuEff nD τ sig (Elt F) Λ₀ .tc) α}
    {B : Prog (TpuEff nD τ sig (Elt F) Λ₀ .tc) α} (h : ¬ cond) : choose cond A B = B := by unfold choose; exact dif_neg h

/-- A receive step: wait for the peer's block unless the peer is the device itself; both ways lead on to `p`. -/
theorem step_recv {α : Type} {Q : α → sProp 𝕄} {p : Prog (TpuEff nD τ sig (Elt F) Λ₀ .tc) α} (n : Fin 16) {cond : Prop} [Decidable cond] (hc : cond ↔ pr c n ≠ c) {offS : Fin 1 → ℕ} (hs : offS = ![(pr c n).val])
    {inbS : cond → ∀ a, offS a + S1.size a ≤ S16.size a} {off : Fin 3 → ℕ} {inb : cond → ∀ a, off a + S1x128x128.size a ≤ S16x128x128.size a} {hsrc : ∀ h, (sendSlot off (inb h)).view.WordExact} {hdst : ∀ h, (commSlot off (inb h)).view.WordExact} :
    records m ρ K ⊢ iprop(ow (F := F) c 0 -∗ recvSt m ρ c n.val -∗ ((ow (F := F) c 0 ∗ recvSt m ρ c (n.val + 1)) -∗ wpc c p Q)
      -∗ wpc c (choose cond (fun h => .op (.waitDma2 ((cc0_scratch5.slice (Rect.unit (s := S16) offS S1.size (inbS h))).squeeze S_ squeezes_S1_S_).sem (sendSlot off (inb h)) (commSlot off (inb h)) (hsrc h) (hdst h)) fun _ => p) p) Q) := by
  unfold recvSt
  iintro #HR HO HM Hk
  ihave HM' := (mix_step _ _ n) $$ HM
  icases HM' with ⟨Hd, HM⟩
  by_cases h : cond
  · have hne : pr c n ≠ c := hc.mp h
    ihave Hd := (Entails.of_eq (recvTodo_ne m ρ c hne)) $$ Hd
    icases Hd with ⟨Hat, Hc⟩
    rw [choose_pos h]
    have hsh := recv_sem (pr c n).val (pr c n).isLt offS hs (inbS h)
    generalize ((cc0_scratch5.slice (Rect.unit (s := S16) offS S1.size (inbS h))).squeeze S_ squeezes_S1_S_).sem = q at hsh ⊢
    subst hsh
    iapply (wait_close m ρ K c (cRecv (pr c n)) (q := dsem (ownRecv (pr c n))) rfl (commSlot_credit off (inb h)) (expect_recv m ρ c hne) (rest_recv m ρ c hne)) $$ HR HO Hc Hat
    iintro ⟨HO, Hs, Hz⟩
    iapply Hk
    isplitl [HO]; · iexact HO
    iapply HM
    unfold recvDone
    isplitl [Hs] <;> iassumption
  · have he : pr c n = c := Classical.not_not.mp fun hne => h (hc.mpr hne)
    ihave Hd := (Entails.of_eq (recvTodo_self m ρ c he)) $$ Hd
    icases Hd with ⟨Hat, Hc⟩
    rw [choose_neg h]
    ihave HM := (Entails.of_eq (congrArg (fun j => iprop(recvDone m ρ c j -∗ Mix (fun n => recvTodo m ρ c (pr c n)) (fun n => recvDone m ρ c (pr c n)) (n.val + 1))) he)) $$ HM
    ihave #Hrec := (rec_recv m ρ K c c) $$ HR
    icases Hrec with ⟨#HI, #Hr⟩
    imod (Rounds.cell_close ER (Rd m ρ) (Set.mem_univ (K (c, cRecv c))) (fun h => h) (R := 0) (duties_self_recv m ρ c)) $$ [Hat] with Hz
    · isplitr; · iexact HI
      iexact Hat
    iapply Hk
    isplitl [HO]; · iexact HO
    iapply HM
    unfold recvDone
    isplitl [Hc] <;> iassumption

/-- The block of device `j`, as it is loaded. -/
def commBlk (c : Dev nD) (j : Fin 16) : Vec F S1x128x128 .bf16 := fun x => commVal m ρ c (ix3 j (x 1) (x 2))

/-- A received slot is loaded. -/
theorem step_comm {α : Type} {Q : α → sProp 𝕄} {k : (S1x128x128.Idx → Elt F .bf16) → Prog (TpuEff nD τ sig (Elt F) Λ₀ .tc) α} (n : Fin 16) {i : ℕ} (hi : n.val < i) {off : Fin 3 → ℕ} (h : off = ![(pr c n).val, 0, 0])
    {inb : ∀ a, off a + S1x128x128.size a ≤ S16x128x128.size a} {hl} :
    recvSt m ρ c i ⊢ iprop((recvSt m ρ c i -∗ wpc c (k (commBlk m ρ c (pr c n))) Q)
      -∗ wpc c (.op (.load commM (Rect.unit (s := S16x128x128) off S1x128x128.size inb).toLoadRect hl) k) Q) := by
  unfold recvSt
  iintro HM Hk
  ihave HM' := (mix_peek _ _ n hi) $$ HM
  icases HM' with ⟨Hd, HM⟩
  unfold recvDone commPts
  icases Hd with ⟨Hs, Hz⟩
  have hset : (commM.access (Rect.unit (s := S16x128x128) off S1x128x128.size inb)).set = slot (pr c n).val :=
    (View.set_slice_whole _ _).trans (slot_rect h inb)
  have hv : (commM.access (Rect.unit (s := S16x128x128) off S1x128x128.size inb)).read (Elt F) (commVal m ρ c) = commBlk m ρ c (pr c n) :=
    slot_read (pr c n).isLt (View.whole cc0_scratch1) h inb (commVal m ρ c)
  iapply (wp_load_rect 𝒱₀ (c : Thread nD τ) none Set.univ (m := commM) (r := Rect.unit (s := S16x128x128) off S1x128x128.size inb) hset.subset) $$ Hs
  iintro Hs
  rw [← hv]
  iapply Hk
  iapply HM
  isplitl [Hs] <;> iassumption

/-- A load of the gathered operand whose value is not used. -/
theorem step_xg_dead {α : Type} {Q : α → sProp 𝕄} {k : (S1x128x128.Idx → Elt F .bf16) → Prog (TpuEff nD τ sig (Elt F) Λ₀ .tc) α} (n : ℕ) {off : Fin 3 → ℕ}
    {inb : ∀ a, off a + S1x128x128.size a ≤ S4x128x512.size a} {hl} :
    xgSt m ρ c n ⊢ iprop((∀ v, xgSt m ρ c n -∗ wpc c (k v) Q)
      -∗ wpc c (.op (.load xgM (Rect.unit (s := S4x128x512) off S1x128x128.size inb).toLoadRect hl) k) Q) := by
  unfold xgSt
  iintro ⟨%f, %hf, Hx⟩ Hk
  iapply (wp_load_rect 𝒱₀ (c : Thread nD τ) none Set.univ (m := xgM) (r := Rect.unit (s := S4x128x512) off S1x128x128.size inb) (Finset.subset_univ _)) $$ Hx
  iintro Hx
  iapply Hk
  iexists f
  isplitr; · ipureintro; exact hf
  iexact Hx

/-- The next block stored, one more block of the gathered operand is in place. -/
theorem xg_written (n : Fin 16) {off : Fin 3 → ℕ} (h : off = ![n.val / 4, 0, 128 * (n.val % 4)]) (inb : ∀ a, off a + S1x128x128.size a ≤ S4x128x512.size a)
    (f : S4x128x512.Idx → Elt F .bf16) (hf : ∀ i : S4x128x512.Idx, 4 * (i 0).val + (i 2).val / 128 < n.val → f i = xgVal m ρ c i) :
    ∀ i : S4x128x512.Idx, 4 * (i 0).val + (i 2).val / 128 < n.val + 1 →
      (xgM.access (Rect.unit (s := S4x128x512) off S1x128x128.size inb)).write (Elt F) f (commBlk m ρ c (pr c n)) Finset.univ i = xgVal m ρ c i := by
  intro i hi
  have h0 : off 0 = n.val / 4 := congrFun h 0
  have h1 : off 1 = 0 := congrFun h 1
  have h2 : off 2 = 128 * (n.val % 4) := congrFun h 2
  have hi2 : (i 2).val < 512 := (i 2).isLt
  by_cases hin : i ∈ (xgM.access (Rect.unit (s := S4x128x512) off S1x128x128.size inb)).set
  · obtain ⟨x, -, rfl⟩ := Finset.mem_map.mp hin
    have hx1 : (x 1).val < 128 := (x 1).isLt
    have hx2 : (x 2).val < 128 := (x 2).isLt
    have hx0 : (x 0).val < 1 := (x 0).isLt
    have e0 : ((Rect.unit (s := S4x128x512) off S1x128x128.size inb).emb x 0).val = n.val / 4 := by
      rw [ValueKit.rect_emb_unit_val]; omega
    have e1 : ((Rect.unit (s := S4x128x512) off S1x128x128.size inb).emb x 1).val = (x 1).val := by
      rw [ValueKit.rect_emb_unit_val]; omega
    have e2 : ((Rect.unit (s := S4x128x512) off S1x128x128.size inb).emb x 2).val = 128 * (n.val % 4) + (x 2).val := by
      rw [ValueKit.rect_emb_unit_val]; omega
    show (xgM.access (Rect.unit (s := S4x128x512) off S1x128x128.size inb)).write (Elt F) f _ Finset.univ ((xgM.access (Rect.unit (s := S4x128x512) off S1x128x128.size inb)).emb x) = xgVal m ρ c ((Rect.unit (s := S4x128x512) off S1x128x128.size inb).emb x)
    refine (View.write_emb_of_mem (v := xgM.access (Rect.unit (s := S4x128x512) off S1x128x128.size inb)) (Val := Elt F) f _ (Finset.mem_univ x)).trans ?_
    show commVal m ρ c (ix3 (pr c n) (x 1) (x 2)) = _
    unfold xgVal
    refine congrArg (commVal m ρ c) (Shape.idx3_ext ?_ ?_ ?_)
    · show peer c (n.val / 4) (n.val % 4) = peer c ((Rect.unit (s := S4x128x512) off S1x128x128.size inb).emb x 0).val
        (((Rect.unit (s := S4x128x512) off S1x128x128.size inb).emb x 2).val / 128)
      rw [e0, e2, show (128 * (n.val % 4) + (x 2).val) / 128 = n.val % 4 by omega]
    · exact e1.symm
    · show (x 2).val = ((Rect.unit (s := S4x128x512) off S1x128x128.size inb).emb x 2).val % 128
      rw [e2]; omega
  · refine (View.write_of_not_mem (v := xgM.access (Rect.unit (s := S4x128x512) off S1x128x128.size inb)) (Val := Elt F) f _ Finset.univ (i := i) ?_).trans (hf i ?_)
    · exact hin
    · have hnot : ¬ (4 * (i 0).val + (i 2).val / 128 = n.val) := fun he => hin (by
        refine (View.set_slice_whole _ _ ▸ ?_ : i ∈ (xgM.access (Rect.unit (s := S4x128x512) off S1x128x128.size inb)).set)
        rw [Rect.mem_set_unit]
        refine (Fin.forall_fin_succ (n := 2)).mpr ?_
        rw [Fin.forall_fin_succ, Fin.forall_fin_one]
        have hi1 : (i 1).val < 128 := (i 1).isLt
        refine ⟨⟨?_, ?_⟩, ⟨?_, ?_⟩, ?_, ?_⟩
        · show off 0 ≤ (i 0).val; omega
        · show (i 0).val < off 0 + 1; omega
        · show off 1 ≤ (i 1).val; omega
        · show (i 1).val < off 1 + 128; omega
        · show off 2 ≤ (i 2).val; omega
        · show (i 2).val < off 2 + 128; omega)
      omega

/-- The next block is put into the gathered operand. -/
theorem step_xg {α : Type} {Q : α → sProp 𝕄} {k : PUnit → Prog (TpuEff nD τ sig (Elt F) Λ₀ .tc) α} (n : Fin 16) {off : Fin 3 → ℕ} (h : off = ![n.val / 4, 0, 128 * (n.val % 4)])
    {inb : ∀ a, off a + S1x128x128.size a ≤ S4x128x512.size a} {hx} {hm} {w : S1x128x128.Idx → Elt F .bf16} (hw : w = commBlk m ρ c (pr c n)) :
    xgSt m ρ c n.val ⊢ iprop((xgSt m ρ c (n.val + 1) -∗ wpc c (k ⟨⟩) Q)
      -∗ wpc c (.op (.store xgM (Rect.unit (s := S4x128x512) off S1x128x128.size inb) w Finset.univ hx hm) k) Q) := by
  subst hw
  unfold xgSt
  iintro ⟨%f, %hf, Hx⟩ Hk
  iapply (wp_store 𝒱₀ (c : Thread nD τ) none Set.univ (m := xgM) (r := Rect.unit (s := S4x128x512) off S1x128x128.size inb) (Mk := Finset.univ) (Finset.subset_univ _)) $$ Hx
  iintro Hx
  iapply Hk
  iexists ((xgM.access (Rect.unit (s := S4x128x512) off S1x128x128.size inb)).write (Elt F) f (commBlk m ρ c (pr c n)) Finset.univ)
  isplitr
  · ipureintro
    exact xg_written m ρ c n h inb f hf
  iexact Hx

/-- The operand of turn `t`, and the rows of `w` it is multiplied with, as they are loaded. -/
def xgBlk (c : Dev nD) (t : Fin 4) : Vec F S1x128x512 .bf16 := fun x => xgVal m ρ c (ix3 t (x 1) (x 2))
def wBlk (c : Dev nD) (t : Fin 4) : Vec F S1x512x2048 .f32 := fun x => wVal m c (ix3 t (x 1) (x 2))

/-- The gathered operand of a turn is loaded once its four blocks are in place. -/
theorem step_xg_load {α : Type} {Q : α → sProp 𝕄} {k : (S1x128x512.Idx → Elt F .bf16) → Prog (TpuEff nD τ sig (Elt F) Λ₀ .tc) α} (t : Fin 4) {n : ℕ} (hn : 4 * t.val + 4 ≤ n) {off : Fin 3 → ℕ} (h : off = ![t.val, 0, 0])
    {inb : ∀ a, off a + S1x128x512.size a ≤ S4x128x512.size a} {hl} :
    xgSt m ρ c n ⊢ iprop((xgSt m ρ c n -∗ wpc c (k (xgBlk m ρ c t)) Q)
      -∗ wpc c (.op (.load xgM (Rect.unit (s := S4x128x512) off S1x128x512.size inb).toLoadRect hl) k) Q) := by
  unfold xgSt
  iintro ⟨%f, %hf, Hx⟩ Hk
  have hv : (xgM.access (Rect.unit (s := S4x128x512) off S1x128x512.size inb)).read (Elt F) f = xgBlk m ρ c t :=
    (slot_read t.isLt (View.whole cc0_scratch3) h inb f).trans (funext fun x => hf _ (by
      have hx2 : (x 2).val < 512 := (x 2).isLt
      show 4 * t.val + (x 2).val / 128 < n
      omega))
  iapply (wp_load_rect 𝒱₀ (c : Thread nD τ) none Set.univ (m := xgM) (r := Rect.unit (s := S4x128x512) off S1x128x512.size inb) (Finset.subset_univ _)) $$ Hx
  iintro Hx
  rw [← hv]
  iapply Hk
  iexists f
  isplitr; · ipureintro; exact hf
  iexact Hx

/-- The copied rows of `w` of a turn are loaded. -/
theorem step_w_load {α : Type} {Q : α → sProp 𝕄} {k : (S1x512x2048.Idx → Elt F .f32) → Prog (TpuEff nD τ sig (Elt F) Λ₀ .tc) α} (t : Fin 4) {off : Fin 3 → ℕ} (h : off = ![t.val, 0, 0])
    {inb : ∀ a, off a + S1x512x2048.size a ≤ S4x512x2048.size a} {hl} :
    wDone m c t ⊢ iprop((wDone m c t -∗ wpc c (k (wBlk m c t)) Q)
      -∗ wpc c (.op (.load wbufM (Rect.unit (s := S4x512x2048) off S1x512x2048.size inb).toLoadRect hl) k) Q) := by
  unfold wDone wbufPts
  iintro ⟨Hb, Hrest⟩ Hk
  have hset : (wbufM.access (Rect.unit (s := S4x512x2048) off S1x512x2048.size inb)).set = slot t.val :=
    (View.set_slice_whole _ _).trans (slot_rect h inb)
  have hv : (wbufM.access (Rect.unit (s := S4x512x2048) off S1x512x2048.size inb)).read (Elt F) (wVal m c) = wBlk m c t :=
    slot_read t.isLt (View.whole cc0_scratch2) h inb (wVal m c)
  iapply (wp_load_rect 𝒱₀ (c : Thread nD τ) none Set.univ (m := wbufM) (r := Rect.unit (s := S4x512x2048) off S1x512x2048.size inb) hset.subset) $$ Hb
  iintro Hb
  rw [← hv]
  iapply Hk
  isplitl [Hb] <;> iassumption

/-- The output staging buffer. -/
def oPts (c : Dev nD) (f : S128x2048.Idx → Elt F .f32) : sProp 𝕄 := ((c : Thread nD τ).loc cc0_stg1_0) ↦{fullShare} (f : Buf (Elt F) ((c : Thread nD τ).loc cc0_stg1_0))

/-- The result is stored. -/
theorem step_out {α : Type} {Q : α → sProp 𝕄} {k : PUnit → Prog (TpuEff nD τ sig (Elt F) Λ₀ .tc) α} (f w : S128x2048.Idx → Elt F .f32)
    {inb : ∀ a, (![0, 0] : Fin 2 → ℕ) a + S128x2048.size a ≤ S128x2048.size a} {hl} {hx} {hm} :
    oPts c f ⊢ iprop((oPts c w -∗ wpc c (k ⟨⟩) Q)
      -∗ wpc c (.op (.load oM (Rect.unit (s := S128x2048) ![0, 0] S128x2048.size inb).toLoadRect hl) fun _ =>
          .op (.store oM (Rect.unit (s := S128x2048) ![0, 0] S128x2048.size inb) w Finset.univ hx hm) k) Q) := by
  unfold oPts
  iintro Ho Hk
  have hz : (![0, 0] : Fin 2 → ℕ) = fun _ => 0 := funext fun a => by fin_cases a <;> rfl
  have hv : (oM.access (Rect.unit (s := S128x2048) ![0, 0] S128x2048.size inb)).write (Elt F) f w Finset.univ = w :=
    Memref.write_access_unit_zero_univ (Elt F) cc0_stg1_0 hz _ f w
  iapply (wp_load_rect 𝒱₀ (c : Thread nD τ) none Set.univ (m := oM) (r := Rect.unit (s := S128x2048) ![0, 0] S128x2048.size inb) (Finset.subset_univ _)) $$ Ho
  iintro Ho
  iapply (wp_store 𝒱₀ (c : Thread nD τ) none Set.univ (m := oM) (r := Rect.unit (s := S128x2048) ![0, 0] S128x2048.size inb) (Mk := Finset.univ) (Finset.subset_univ _)) $$ Ho
  iintro Ho
  iapply Hk
  ihave Ho := (Entails.of_eq (congrArg (fun g => (((c : Thread nD τ).loc cc0_stg1_0) ↦{fullShare} (g : Buf (Elt F) ((c : Thread nD τ).loc cc0_stg1_0)) : sProp 𝕄)) hv)) $$ Ho
  iexact Ho

end Steps

end Cert.Exchange

end
-- ==== Proof.Parts.lean ====
/-
# The parts of the body

Each printed part of the kernel's body, at any device: what it needs, what it leaves, and the values it hands on. A part
is a run of the steps of `Steps`, so its proof names them in order.
-/
module

public import proofs.«01_k».proof.Proof.Steps

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

theorem wpc_bind {α β : Type} (p : Prog (TpuEff nD τ sig (Elt F) Λ₀ .tc) α) (k : α → Prog (TpuEff nD τ sig (Elt F) Λ₀ .tc) β) (Q : β → sProp 𝕄) :
    wpc c (p.bind k) Q = wpc c p fun a => wpc c (k a) Q := wp_bind ..

theorem wpc_device {α : Type} (k : Dev nD → Prog (TpuEff nD τ sig (Elt F) Λ₀ .tc) α) (Q : α → sProp 𝕄) :
    wpc c (.op .deviceId k) Q = wpc c (k c) Q := wp_deviceId ..

/-- The body's last step in a part: a value is handed on. -/
theorem wpc_done {α : Type} (a : α) (Q : α → sProp 𝕄) : Q a ⊢ wpc (F := F) c (.ret a) Q := by
  rw [wpc_ret]; iintro H; imodintro; iexact H

/-! ## What the printed index computations come to -/

section Closed
omit [FloatOps F]

theorem off1_is (t : Fin 4) : k0_off1 c (BitVec.ofNat 32 t.val) = ![512 * grp c t.val, 0] := k0_off1_eq c t
theorem off3_is (i : Fin 15) : k0_off3 c (BitVec.ofNat 32 (1 + i.val)) = ![(sh c (i.val + 1)).val] := k0_off3_eq c i
theorem off6_is (i : Fin 15) : k0_off6 c (BitVec.ofNat 32 (1 + i.val)) = ![(sh c (i.val + 1)).val, 0, 0] := k0_off6_eq c i

/-- The send semaphore of the `i`-th copy. -/
theorem sSem (i : Fin 15) {off : Fin 1 → ℕ} (h : off = k0_off3 c (BitVec.ofNat 32 (1 + i.val))) (inb) :
    ((cc0_scratch4.slice (Rect.unit (s := S16) off S1.size inb)).squeeze S_ squeezes_S1_S_).sem = dsem (ownSend (sh c (i.val + 1))) :=
  send_sem (sh c (i.val + 1)).val (sh c (i.val + 1)).isLt off (h.trans (off3_is c i)) inb
/-- The receive semaphore a device's copies complete on. -/
theorem rSem {off : Fin 1 → ℕ} (j : Fin 16) (h : off = ![j.val]) (inb) :
    ((cc0_scratch5.slice (Rect.unit (s := S16) off S1.size inb)).squeeze S_ squeezes_S1_S_).sem = dsem (ownRecv j) :=
  recv_sem j.val j.isLt off h inb
/-- The semaphore of the copy of `w` at turn `t`. -/
theorem wSem (t : Fin 4) {off : Fin 1 → ℕ} (h : off = ![t.val]) (inb) :
    ((cc0_scratch6.slice (Rect.unit (s := S4) off S1.size inb)).squeeze S_ squeezes_S1_S_).sem = dsem (ownW t) :=
  w_sem t.val t.isLt off h inb

theorem off9_is (n : Fin 16) {a b : BitVec 32} (ha : a = BitVec.ofNat 32 (n.val / 4)) (hb : b = BitVec.ofNat 32 (n.val % 4)) :
    k0_off9 c a b = ![(pr c n).val, 0, 0] := by
  subst ha; subst hb
  exact k0_off9_eq c ⟨n.val / 4, by have := n.isLt; omega⟩ ⟨n.val % 4, Nat.mod_lt _ (by decide)⟩

theorem one_word : ((1 : ℕ) : ℤ) = (1#32).toInt := by decide
theorem fifteen_word : ((15 : ℕ) : ℤ) = (15#32).toInt := by decide

/-! The `n`-th receive step is taken unless the peer is the device itself, and waits on that peer's semaphore. -/

theorem recv_0 : (k0_cond1 c = 1#1 ↔ pr c ⟨0, by decide⟩ ≠ c) ∧ k0_off7 c = ![(pr c ⟨0, by decide⟩).val] := by revert c; decide
theorem recv_1 : (k0_cond2 c = 1#1 ↔ pr c ⟨1, by decide⟩ ≠ c) ∧ k0_off10 c = ![(pr c ⟨1, by decide⟩).val] := by revert c; decide
theorem recv_2 : (k0_cond3 c = 1#1 ↔ pr c ⟨2, by decide⟩ ≠ c) ∧ k0_off12 c = ![(pr c ⟨2, by decide⟩).val] := by revert c; decide
theorem recv_3 : (k0_cond4 c = 1#1 ↔ pr c ⟨3, by decide⟩ ≠ c) ∧ k0_off14 c = ![(pr c ⟨3, by decide⟩).val] := by revert c; decide
theorem recv_4 : (k0_cond5 c = 1#1 ↔ pr c ⟨4, by decide⟩ ≠ c) ∧ k0_off16 c = ![(pr c ⟨4, by decide⟩).val] := by revert c; decide
theorem recv_5 : (k0_cond6 c = 1#1 ↔ pr c ⟨5, by decide⟩ ≠ c) ∧ k0_off18 c = ![(pr c ⟨5, by decide⟩).val] := by revert c; decide
theorem recv_6 : (k0_cond7 c = 1#1 ↔ pr c ⟨6, by decide⟩ ≠ c) ∧ k0_off20 c = ![(pr c ⟨6, by decide⟩).val] := by revert c; decide
theorem recv_7 : (k0_cond8 c = 1#1 ↔ pr c ⟨7, by decide⟩ ≠ c) ∧ k0_off22 c = ![(pr c ⟨7, by decide⟩).val] := by revert c; decide
theorem recv_8 : (k0_cond9 c = 1#1 ↔ pr c ⟨8, by decide⟩ ≠ c) ∧ k0_off24 c = ![(pr c ⟨8, by decide⟩).val] := by revert c; decide
theorem recv_9 : (k0_cond10 c = 1#1 ↔ pr c ⟨9, by decide⟩ ≠ c) ∧ k0_off26 c = ![(pr c ⟨9, by decide⟩).val] := by revert c; decide
theorem recv_10 : (k0_cond11 c = 1#1 ↔ pr c ⟨10, by decide⟩ ≠ c) ∧ k0_off28 c = ![(pr c ⟨10, by decide⟩).val] := by revert c; decide
theorem recv_11 : (k0_cond12 c = 1#1 ↔ pr c ⟨11, by decide⟩ ≠ c) ∧ k0_off30 c = ![(pr c ⟨11, by decide⟩).val] := by revert c; decide
theorem recv_12 : (k0_cond13 c = 1#1 ↔ pr c ⟨12, by decide⟩ ≠ c) ∧ k0_off32 c = ![(pr c ⟨12, by decide⟩).val] := by revert c; decide
theorem recv_13 : (k0_cond14 c = 1#1 ↔ pr c ⟨13, by decide⟩ ≠ c) ∧ k0_off34 c = ![(pr c ⟨13, by decide⟩).val] := by revert c; decide
theorem recv_14 : (k0_cond15 c = 1#1 ↔ pr c ⟨14, by decide⟩ ≠ c) ∧ k0_off36 c = ![(pr c ⟨14, by decide⟩).val] := by revert c; decide
theorem recv_15 : (k0_cond16 c = 1#1 ↔ pr c ⟨15, by decide⟩ ≠ c) ∧ k0_off38 c = ![(pr c ⟨15, by decide⟩).val] := by revert c; decide
end Closed

/-- Each slot is filled with the rounded rows meant for its device. -/
theorem fills (d : Fin 16) (x : S1x128x128.Idx) :
    sendVal m ρ c (ix3 d (x 1) (x 2)) = k0_pay3 (xrows m ρ c d.val d.isLt : Vec F S128x128 .f32) x := by
  have h : (k0_pay3 (xrows m ρ c d.val d.isLt : Vec F S128x128 .f32) : FVec F S1x128x128 .bf16)
      = shapeCast S1x128x128 (truncf .bf16 (xrows m ρ c d.val d.isLt : FVec F S128x128 .f32) bitsLt_bf16_f32 : FVec F S128x128 .bf16) shapeCasts_S128x128_S1x128x128 :=
    congrArg (fun v => (shapeCast S1x128x128 (truncf .bf16 (v : FVec F S128x128 .f32) bitsLt_bf16_f32 : FVec F S128x128 .bf16) shapeCasts_S128x128_S1x128x128 : FVec F S1x128x128 .bf16))
      (shapeCast_self _ _)
  rw [h]
  have hx : ix3 (x 0) (x 1) (x 2) = x := Shape.idx3_ext rfl rfl rfl
  exact (shapeCast_ab_1ab_apply _ _ (x 0) (x 1) (x 2)).symm.trans (congrArg _ hx)

/-- A block cast to two axes and back is itself. -/
theorem cast_twice (v : Vec F S1x128x128 .bf16) :
    shapeCast S1x128x128 (shapeCast S128x128 v shapeCasts_S1x128x128_S128x128) shapeCasts_S128x128_S1x128x128 = v :=
  shapeCast_shapeCast _ _ _

/-- A received block is stored as the next block of the gathered operand. -/
theorem step_gather {α : Type} {Q : α → sProp 𝕄} {k : PUnit → Prog (TpuEff nD τ sig (Elt F) Λ₀ .tc) α} (n : Fin 16) {i : ℕ} (hi : n.val < i)
    {off off' : Fin 3 → ℕ} (h : off = ![(pr c n).val, 0, 0]) (h' : off' = ![n.val / 4, 0, 128 * (n.val % 4)])
    {inb : ∀ a, off a + S1x128x128.size a ≤ S16x128x128.size a} {inb' : ∀ a, off' a + S1x128x128.size a ≤ S4x128x512.size a} {hl} {hl'} {hx} {hm}
    {w : (S1x128x128.Idx → Elt F .bf16) → S1x128x128.Idx → Elt F .bf16} (hw : ∀ v, w v = v) :
    recvSt m ρ c i ⊢ iprop(xgSt m ρ c n.val -∗ (recvSt m ρ c i -∗ xgSt m ρ c (n.val + 1) -∗ wpc c (k ⟨⟩) Q)
      -∗ wpc c (.op (.load commM (Rect.unit (s := S16x128x128) off S1x128x128.size inb).toLoadRect hl) fun v =>
          .op (.load xgM (Rect.unit (s := S4x128x512) off' S1x128x128.size inb').toLoadRect hl') fun _ =>
          .op (.store xgM (Rect.unit (s := S4x128x512) off' S1x128x128.size inb') (w v) Finset.univ hx hm) k) Q) := by
  iintro HC HX Hk
  iapply (step_comm m ρ c n hi h) $$ HC
  iintro HC
  iapply (step_xg_dead m ρ c n.val) $$ HX
  iintro %_ HX
  iapply (step_xg m ρ c n h' (hw _)) $$ HX
  iintro HX
  iapply Hk $$ HC HX

/-! ## Starting the copies of `w`, and the signals -/

theorem part1 (Q : (Σ' (d0 : Dev nD) (v2 : BitVec 32), BitVec 32) → sProp 𝕄) :
    records m ρ K ⊢ iprop(wIdle m c 0 -∗ wIdle m c 1 -∗ (∀ v2 v3, wFly (F := F) c 0 -∗ wFly (F := F) c 1 -∗ Q ⟨c, v2, v3⟩)
      -∗ wpc c (k0_part1 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6) Q) := by
  simp only [k0_part1_eq_skeleton]; unfold k0_part1_skel
  simp only [semSignalWord, semWaitWord, Prog.lift, Prog.bind_op, Prog.bind_ret, Prog.pure_eq_ret]
  iintro #HR H0 H1 Hk
  rw [wpc_device]
  iapply (step_w m ρ K c 0 (off1_is c 0) rfl (wSem 0 rfl _)) $$ HR H0
  iintro H0
  iapply (step_w m ρ K c 1 (off1_is c 1) rfl (wSem 1 rfl _)) $$ HR H1
  iintro H1
  iapply wpc_done
  iapply Hk $$ H0 H1

theorem part2 (v2 v3 : BitVec 32) (Q : (Σ' (v40 : Sems sig S_), BitVec 32) → sProp 𝕄) :
    records m ρ K ⊢ iprop(wIdle m c 2 -∗ wIdle m c 3 -∗ sigSt (F := F) c 0
      -∗ (∀ v, wFly (F := F) c 2 -∗ wFly (F := F) c 3 -∗ sigSt (F := F) c 3 -∗ Q ⟨SemArray.scalar (sig.barrier 0 rfl), v⟩)
      -∗ wpc c (k0_part2 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v3) Q) := by
  simp only [k0_part2_eq_skeleton]; unfold k0_part2_skel
  simp only [semSignalWord, semWaitWord, Prog.lift, Prog.bind_op, Prog.bind_ret, Prog.pure_eq_ret]
  iintro #HR H0 H1 HS Hk
  iapply (step_w m ρ K c 2 (off1_is c 2) rfl (wSem 2 rfl _)) $$ HR H0
  iintro H0
  iapply (step_w m ρ K c 3 (off1_is c 3) rfl (wSem 3 rfl _)) $$ HR H1
  iintro H1
  iapply (step_signal m ρ K c ⟨0, by decide⟩ (Fin.ext (k0_dev1_eq c)) one_word) $$ HR HS
  iintro HS
  iapply (step_signal m ρ K c ⟨1, by decide⟩ (Fin.ext (k0_dev2_eq c)) one_word) $$ HR HS
  iintro HS
  iapply (step_signal m ρ K c ⟨2, by decide⟩ (Fin.ext (k0_dev3_eq c)) one_word) $$ HR HS
  iintro HS
  iapply wpc_done
  iapply Hk $$ H0 H1 HS

theorem part3 (v2 v54 : BitVec 32) (Q : BitVec 32 → sProp 𝕄) :
    records m ρ K ⊢ iprop(sigSt (F := F) c 3 -∗ (∀ v, sigSt (F := F) c 9 -∗ Q v)
      -∗ wpc c (k0_part3 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 (SemArray.scalar (sig.barrier 0 rfl)) v54) Q) := by
  simp only [k0_part3_eq_skeleton]; unfold k0_part3_skel
  simp only [semSignalWord, semWaitWord, Prog.lift, Prog.bind_op, Prog.bind_ret, Prog.pure_eq_ret]
  iintro #HR HS Hk
  iapply (step_signal m ρ K c ⟨3, by decide⟩ (Fin.ext (k0_dev4_eq c)) one_word) $$ HR HS
  iintro HS
  iapply (step_signal m ρ K c ⟨4, by decide⟩ (Fin.ext (k0_dev5_eq c)) one_word) $$ HR HS
  iintro HS
  iapply (step_signal m ρ K c ⟨5, by decide⟩ (Fin.ext (k0_dev6_eq c)) one_word) $$ HR HS
  iintro HS
  iapply (step_signal m ρ K c ⟨6, by decide⟩ (Fin.ext (k0_dev7_eq c)) one_word) $$ HR HS
  iintro HS
  iapply (step_signal m ρ K c ⟨7, by decide⟩ (Fin.ext (k0_dev8_eq c)) one_word) $$ HR HS
  iintro HS
  iapply (step_signal m ρ K c ⟨8, by decide⟩ (Fin.ext (k0_dev9_eq c)) one_word) $$ HR HS
  iintro HS
  iapply wpc_done
  iapply Hk $$ HS

/-! ## Filling the sending buffer -/

theorem part4 (v2 v78 : BitVec 32) (Q : FVec F S128x128 .bf16 → sProp 𝕄) :
    records m ρ K ⊢ iprop(sigSt (F := F) c 9 -∗ xPts m ρ c
      -∗ (sigSt (F := F) c 15 -∗ xPts m ρ c -∗ Q (k0_pay1 (xrows m ρ c (0 : Fin 16).val (Fin.isLt _))))
      -∗ wpc c (k0_part4 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 (SemArray.scalar (sig.barrier 0 rfl)) v78) Q) := by
  simp only [k0_part4_eq_skeleton]; unfold k0_part4_skel
  simp only [semSignalWord, semWaitWord, Prog.lift, Prog.bind_op, Prog.bind_ret, Prog.pure_eq_ret]
  iintro #HR HS Hx Hk
  iapply (step_signal m ρ K c ⟨9, by decide⟩ (Fin.ext (k0_dev10_eq c)) one_word) $$ HR HS
  iintro HS
  iapply (step_signal m ρ K c ⟨10, by decide⟩ (Fin.ext (k0_dev11_eq c)) one_word) $$ HR HS
  iintro HS
  iapply (step_signal m ρ K c ⟨11, by decide⟩ (Fin.ext (k0_dev12_eq c)) one_word) $$ HR HS
  iintro HS
  iapply (step_signal m ρ K c ⟨12, by decide⟩ (Fin.ext (k0_dev13_eq c)) one_word) $$ HR HS
  iintro HS
  iapply (step_signal m ρ K c ⟨13, by decide⟩ (Fin.ext (k0_dev14_eq c)) one_word) $$ HR HS
  iintro HS
  iapply (step_signal m ρ K c ⟨14, by decide⟩ (Fin.ext (k0_dev15_eq c)) one_word) $$ HR HS
  iintro HS
  iapply (step_xrows m ρ c (0 : Fin 16).val (Fin.isLt _) rfl) $$ Hx
  iintro Hx
  iapply wpc_done
  iapply Hk $$ HS Hx

theorem part5 (Q : FVec F S128x128 .bf16 → sProp 𝕄) :
    fillSt m ρ c 0 ⊢ iprop(xPts m ρ c -∗ (fillSt m ρ c 5 -∗ xPts m ρ c -∗ Q (k0_pay7 (xrows m ρ c (5 : Fin 16).val (Fin.isLt _))))
      -∗ wpc c (k0_part5 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 (k0_pay1 (xrows m ρ c (0 : Fin 16).val (Fin.isLt _)))) Q) := by
  simp only [k0_part5_eq_skeleton]; unfold k0_part5_skel
  simp only [semSignalWord, semWaitWord, Prog.lift, Prog.bind_op, Prog.bind_ret, Prog.pure_eq_ret]
  iintro HF Hx Hk
  iapply (step_fill m ρ c ⟨0, by decide⟩ (off := ![0, 0, 0]) rfl (fills m ρ c 0)) $$ HF
  iintro HF
  iapply (step_xrows m ρ c (1 : Fin 16).val (Fin.isLt _) rfl) $$ Hx
  iintro Hx
  iapply (step_fill m ρ c ⟨1, by decide⟩ (off := ![1, 0, 0]) rfl (fills m ρ c 1)) $$ HF
  iintro HF
  iapply (step_xrows m ρ c (2 : Fin 16).val (Fin.isLt _) rfl) $$ Hx
  iintro Hx
  iapply (step_fill m ρ c ⟨2, by decide⟩ (off := ![2, 0, 0]) rfl (fills m ρ c 2)) $$ HF
  iintro HF
  iapply (step_xrows m ρ c (3 : Fin 16).val (Fin.isLt _) rfl) $$ Hx
  iintro Hx
  iapply (step_fill m ρ c ⟨3, by decide⟩ (off := ![3, 0, 0]) rfl (fills m ρ c 3)) $$ HF
  iintro HF
  iapply (step_xrows m ρ c (4 : Fin 16).val (Fin.isLt _) rfl) $$ Hx
  iintro Hx
  iapply (step_fill m ρ c ⟨4, by decide⟩ (off := ![4, 0, 0]) rfl (fills m ρ c 4)) $$ HF
  iintro HF
  iapply (step_xrows m ρ c (5 : Fin 16).val (Fin.isLt _) rfl) $$ Hx
  iintro Hx
  iapply wpc_done
  iapply Hk $$ HF Hx

theorem part6 (Q : FVec F S128x128 .bf16 → sProp 𝕄) :
    fillSt m ρ c 5 ⊢ iprop(xPts m ρ c -∗ (fillSt m ρ c 10 -∗ xPts m ρ c -∗ Q (k0_pay13 (xrows m ρ c (10 : Fin 16).val (Fin.isLt _))))
      -∗ wpc c (k0_part6 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 (k0_pay7 (xrows m ρ c (5 : Fin 16).val (Fin.isLt _)))) Q) := by
  simp only [k0_part6_eq_skeleton]; unfold k0_part6_skel
  simp only [semSignalWord, semWaitWord, Prog.lift, Prog.bind_op, Prog.bind_ret, Prog.pure_eq_ret]
  iintro HF Hx Hk
  iapply (step_fill m ρ c ⟨5, by decide⟩ (off := ![5, 0, 0]) rfl (fills m ρ c 5)) $$ HF
  iintro HF
  iapply (step_xrows m ρ c (6 : Fin 16).val (Fin.isLt _) rfl) $$ Hx
  iintro Hx
  iapply (step_fill m ρ c ⟨6, by decide⟩ (off := ![6, 0, 0]) rfl (fills m ρ c 6)) $$ HF
  iintro HF
  iapply (step_xrows m ρ c (7 : Fin 16).val (Fin.isLt _) rfl) $$ Hx
  iintro Hx
  iapply (step_fill m ρ c ⟨7, by decide⟩ (off := ![7, 0, 0]) rfl (fills m ρ c 7)) $$ HF
  iintro HF
  iapply (step_xrows m ρ c (8 : Fin 16).val (Fin.isLt _) rfl) $$ Hx
  iintro Hx
  iapply (step_fill m ρ c ⟨8, by decide⟩ (off := ![8, 0, 0]) rfl (fills m ρ c 8)) $$ HF
  iintro HF
  iapply (step_xrows m ρ c (9 : Fin 16).val (Fin.isLt _) rfl) $$ Hx
  iintro Hx
  iapply (step_fill m ρ c ⟨9, by decide⟩ (off := ![9, 0, 0]) rfl (fills m ρ c 9)) $$ HF
  iintro HF
  iapply (step_xrows m ρ c (10 : Fin 16).val (Fin.isLt _) rfl) $$ Hx
  iintro Hx
  iapply wpc_done
  iapply Hk $$ HF Hx

theorem part7 (Q : FVec F S128x128 .bf16 → sProp 𝕄) :
    fillSt m ρ c 10 ⊢ iprop(xPts m ρ c -∗ (fillSt m ρ c 15 -∗ xPts m ρ c -∗ Q (k0_pay19 (xrows m ρ c (15 : Fin 16).val (Fin.isLt _))))
      -∗ wpc c (k0_part7 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 (k0_pay13 (xrows m ρ c (10 : Fin 16).val (Fin.isLt _)))) Q) := by
  simp only [k0_part7_eq_skeleton]; unfold k0_part7_skel
  simp only [semSignalWord, semWaitWord, Prog.lift, Prog.bind_op, Prog.bind_ret, Prog.pure_eq_ret]
  iintro HF Hx Hk
  iapply (step_fill m ρ c ⟨10, by decide⟩ (off := ![10, 0, 0]) rfl (fills m ρ c 10)) $$ HF
  iintro HF
  iapply (step_xrows m ρ c (11 : Fin 16).val (Fin.isLt _) rfl) $$ Hx
  iintro Hx
  iapply (step_fill m ρ c ⟨11, by decide⟩ (off := ![11, 0, 0]) rfl (fills m ρ c 11)) $$ HF
  iintro HF
  iapply (step_xrows m ρ c (12 : Fin 16).val (Fin.isLt _) rfl) $$ Hx
  iintro Hx
  iapply (step_fill m ρ c ⟨12, by decide⟩ (off := ![12, 0, 0]) rfl (fills m ρ c 12)) $$ HF
  iintro HF
  iapply (step_xrows m ρ c (13 : Fin 16).val (Fin.isLt _) rfl) $$ Hx
  iintro Hx
  iapply (step_fill m ρ c ⟨13, by decide⟩ (off := ![13, 0, 0]) rfl (fills m ρ c 13)) $$ HF
  iintro HF
  iapply (step_xrows m ρ c (14 : Fin 16).val (Fin.isLt _) rfl) $$ Hx
  iintro Hx
  iapply (step_fill m ρ c ⟨14, by decide⟩ (off := ![14, 0, 0]) rfl (fills m ρ c 14)) $$ HF
  iintro HF
  iapply (step_xrows m ρ c (15 : Fin 16).val (Fin.isLt _) rfl) $$ Hx
  iintro Hx
  iapply wpc_done
  iapply Hk $$ HF Hx

/-! ## The own slot, the barrier, and the sends -/

/-- The right to complete the transfers to the other devices. -/
def sendToks (c : Dev nD) : sProp 𝕄 := bigSep (Finset.univ : Finset (Fin 15)) fun k =>
  iprop(dutyTok ER (sendCell c (sh c (k.val + 1))) 0 c ∗ dutyTok ER (recvCell (sh c (k.val + 1)) c) 0 c)

/-- Filled, the sending buffer is the device's own slot and the slots of the others. -/
theorem filled : fillSt m ρ c 16 ⊢ iprop(sendPts c c.val (sendVal m ρ c)
    ∗ bigSep (Finset.univ : Finset (Fin 15)) fun k => sendPts c (sh c (k.val + 1)).val (sendVal m ρ c)) := by
  unfold fillSt
  rw [mix_all, bigSep_univ_at _ c, around_others c fun d => sendPts c d.val (sendVal m ρ c)]

/-- After the barrier every slot may be sent. -/
theorem sends_ready : iprop((bigSep (Finset.univ : Finset (Fin 15)) fun j => barPay (F := F) c (sh c (j.val + 1)))
    ∗ (bigSep (Finset.univ : Finset (Fin 15)) fun k => sendPts c (sh c (k.val + 1)).val (sendVal m ρ c)) ∗ sendToks (F := F) c)
    ⊢ Mix (sendTodo m ρ c) (sendFly (F := F) c) 0 := by
  unfold sendToks
  rw [mix_zero, ← bigSep_sep', ← bigSep_sep']
  exact .rfl

theorem part8 (v2 : BitVec 32) (Q : PUnit → sProp 𝕄) :
    records m ρ K ⊢ iprop(levAts L lv -∗ fillSt m ρ c 15 -∗ (∃ f, commPts c c.val f) -∗ cred (tallyAt (barCell c) () 15) -∗ atPos ER (barCell c) 0 ∅ 0
      -∗ ow (F := F) c (oRecv c 1) -∗ sendToks (F := F) c
      -∗ (sendPts c c.val (sendVal m ρ c) -∗ commPts c c.val (commVal m ρ c) -∗ semVal (barCell c) 0 -∗ sendSt m ρ c 1 -∗ Q ⟨⟩)
      -∗ wpc c (k0_part8 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 (SemArray.scalar (sig.barrier 0 rfl)) (k0_pay19 (xrows m ρ c (15 : Fin 16).val (Fin.isLt _)))) Q) := by
  simp only [k0_part8_eq_skeleton]; unfold k0_part8_skel
  simp only [semSignalWord, semWaitWord, Prog.lift, Prog.bind_op, Prog.bind_ret, Prog.pure_eq_ret]
  iintro #HR #Hlev HF Hc Hcr Hat HO Htok Hk
  iapply (step_fill m ρ c ⟨15, by decide⟩ (off := ![15, 0, 0]) rfl (fills m ρ c 15)) $$ HF
  iintro HF
  ihave HF := (filled m ρ c) $$ HF
  icases HF with ⟨Hs, HF⟩
  iapply (step_own m ρ c (k0_off2_eq c) cast_twice) $$ Hs Hc
  iintro ⟨Hs, Hc⟩
  iapply (step_bar m ρ K c fifteen_word) $$ HR Hlev Hcr Hat HO
  iintro ⟨HO, Hz, Hb⟩
  ihave HM := (sends_ready m ρ c) $$ [Hb HF Htok]
  · isplitl [Hb]; · iexact Hb
    isplitl [HF] <;> iassumption
  ihave HS : sendSt m ρ c 0 $$ [HO HM]
  · unfold sendSt; isplitl [HO] <;> iassumption
  iapply (step_send m ρ K c ⟨0, by decide⟩ (Fin.ext (k0_dev16_eq c)) (off6_is c 0) (k0_off5_eq c) (sSem c 0 rfl _) (rSem c (k0_off4_eq c) _)) $$ HR HS
  iintro HS
  iapply wpc_done
  iapply Hk $$ Hs Hc Hz HS

theorem part9 (v2 : BitVec 32) (Q : PUnit → sProp 𝕄) :
    records m ρ K ⊢ iprop(sendSt m ρ c 1 -∗ (sendSt m ρ c 4 -∗ Q ⟨⟩) -∗ wpc c (k0_part9 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part9_eq_skeleton]; unfold k0_part9_skel
  simp only [semSignalWord, semWaitWord, Prog.lift, Prog.bind_op, Prog.bind_ret, Prog.pure_eq_ret]
  iintro #HR HS Hk
  iapply (step_send m ρ K c ⟨1, by decide⟩ (Fin.ext (k0_dev17_eq c)) (off6_is c 1) (k0_off5_eq c) (sSem c 1 rfl _) (rSem c (k0_off4_eq c) _)) $$ HR HS
  iintro HS
  iapply (step_send m ρ K c ⟨2, by decide⟩ (Fin.ext (k0_dev18_eq c)) (off6_is c 2) (k0_off5_eq c) (sSem c 2 rfl _) (rSem c (k0_off4_eq c) _)) $$ HR HS
  iintro HS
  iapply (step_send m ρ K c ⟨3, by decide⟩ (Fin.ext (k0_dev19_eq c)) (off6_is c 3) (k0_off5_eq c) (sSem c 3 rfl _) (rSem c (k0_off4_eq c) _)) $$ HR HS
  iintro HS
  iapply wpc_done
  iapply Hk $$ HS

theorem part10 (v2 : BitVec 32) (Q : PUnit → sProp 𝕄) :
    records m ρ K ⊢ iprop(sendSt m ρ c 4 -∗ (sendSt m ρ c 7 -∗ Q ⟨⟩) -∗ wpc c (k0_part10 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part10_eq_skeleton]; unfold k0_part10_skel
  simp only [semSignalWord, semWaitWord, Prog.lift, Prog.bind_op, Prog.bind_ret, Prog.pure_eq_ret]
  iintro #HR HS Hk
  iapply (step_send m ρ K c ⟨4, by decide⟩ (Fin.ext (k0_dev20_eq c)) (off6_is c 4) (k0_off5_eq c) (sSem c 4 rfl _) (rSem c (k0_off4_eq c) _)) $$ HR HS
  iintro HS
  iapply (step_send m ρ K c ⟨5, by decide⟩ (Fin.ext (k0_dev21_eq c)) (off6_is c 5) (k0_off5_eq c) (sSem c 5 rfl _) (rSem c (k0_off4_eq c) _)) $$ HR HS
  iintro HS
  iapply (step_send m ρ K c ⟨6, by decide⟩ (Fin.ext (k0_dev22_eq c)) (off6_is c 6) (k0_off5_eq c) (sSem c 6 rfl _) (rSem c (k0_off4_eq c) _)) $$ HR HS
  iintro HS
  iapply wpc_done
  iapply Hk $$ HS

theorem part11 (v2 : BitVec 32) (Q : PUnit → sProp 𝕄) :
    records m ρ K ⊢ iprop(sendSt m ρ c 7 -∗ (sendSt m ρ c 10 -∗ Q ⟨⟩) -∗ wpc c (k0_part11 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part11_eq_skeleton]; unfold k0_part11_skel
  simp only [semSignalWord, semWaitWord, Prog.lift, Prog.bind_op, Prog.bind_ret, Prog.pure_eq_ret]
  iintro #HR HS Hk
  iapply (step_send m ρ K c ⟨7, by decide⟩ (Fin.ext (k0_dev23_eq c)) (off6_is c 7) (k0_off5_eq c) (sSem c 7 rfl _) (rSem c (k0_off4_eq c) _)) $$ HR HS
  iintro HS
  iapply (step_send m ρ K c ⟨8, by decide⟩ (Fin.ext (k0_dev24_eq c)) (off6_is c 8) (k0_off5_eq c) (sSem c 8 rfl _) (rSem c (k0_off4_eq c) _)) $$ HR HS
  iintro HS
  iapply (step_send m ρ K c ⟨9, by decide⟩ (Fin.ext (k0_dev25_eq c)) (off6_is c 9) (k0_off5_eq c) (sSem c 9 rfl _) (rSem c (k0_off4_eq c) _)) $$ HR HS
  iintro HS
  iapply wpc_done
  iapply Hk $$ HS

theorem part12 (v2 : BitVec 32) (Q : (Σ' (v361 : BitVec 32), BitVec 32) → sProp 𝕄) :
    records m ρ K ⊢ iprop(sendSt m ρ c 10 -∗ (∀ v v', sendSt m ρ c 13 -∗ Q ⟨v, v'⟩) -∗ wpc c (k0_part12 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part12_eq_skeleton]; unfold k0_part12_skel
  simp only [semSignalWord, semWaitWord, Prog.lift, Prog.bind_op, Prog.bind_ret, Prog.pure_eq_ret]
  iintro #HR HS Hk
  iapply (step_send m ρ K c ⟨10, by decide⟩ (Fin.ext (k0_dev26_eq c)) (off6_is c 10) (k0_off5_eq c) (sSem c 10 rfl _) (rSem c (k0_off4_eq c) _)) $$ HR HS
  iintro HS
  iapply (step_send m ρ K c ⟨11, by decide⟩ (Fin.ext (k0_dev27_eq c)) (off6_is c 11) (k0_off5_eq c) (sSem c 11 rfl _) (rSem c (k0_off4_eq c) _)) $$ HR HS
  iintro HS
  iapply (step_send m ρ K c ⟨12, by decide⟩ (Fin.ext (k0_dev28_eq c)) (off6_is c 12) (k0_off5_eq c) (sSem c 12 rfl _) (rSem c (k0_off4_eq c) _)) $$ HR HS
  iintro HS
  iapply wpc_done
  iapply Hk $$ HS

end Cert.Exchange

end
-- ==== Proof.Gather.lean ====
/-
# The parts of the body from the last sends on

The blocks are received and gathered, the products accumulated, the result stored, and the sends waited for.
-/
module

public import proofs.«01_k».proof.Proof.Parts

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Receiving and gathering, and the products -/

/-- All sent, a device owes nothing and holds the credits to wait with. -/
theorem all_sent : sendSt m ρ c 15 ⊢ iprop(ow (F := F) c 0 ∗ bigSep Finset.univ (sendFly (F := F) c)) := by
  unfold sendSt
  rw [mix_all, oRecv_end]

theorem part13 (v2 v3 v361 v : BitVec 32) (Q : (Σ' (v384 : FVec F S128x2048 .f32) (v387 : BitVec 32), FVec F S128x128 .bf16) → sProp 𝕄) :
    records m ρ K ⊢ iprop(sendSt m ρ c 13 -∗ recvSt m ρ c 0
      -∗ (∀ w, ow (F := F) c 0 -∗ bigSep Finset.univ (sendFly (F := F) c) -∗ recvSt m ρ c 1 -∗ Q ⟨k0_pay22, w, k0_pay23 (commBlk m ρ c (pr c ⟨0, by decide⟩))⟩)
      -∗ wpc c (k0_part13 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v3 v361 v) Q) := by
  simp only [k0_part13_eq_skeleton]; unfold k0_part13_skel
  simp only [semSignalWord, semWaitWord, Prog.lift, Prog.bind_op, Prog.bind_ret, Prog.pure_eq_ret, choose_eq]
  iintro #HR HS HC Hk
  iapply (step_send m ρ K c ⟨13, by decide⟩ (Fin.ext (k0_dev29_eq c)) (off6_is c 13) (k0_off5_eq c) (sSem c 13 rfl _) (rSem c (k0_off4_eq c) _)) $$ HR HS
  iintro HS
  iapply (step_send m ρ K c ⟨14, by decide⟩ (Fin.ext (k0_dev30_eq c)) (off6_is c 14) (k0_off5_eq c) (sSem c 14 rfl _) (rSem c (k0_off4_eq c) _)) $$ HR HS
  iintro HS
  ihave HS := (all_sent m ρ c) $$ HS
  icases HS with ⟨HO, HS⟩
  iapply (step_recv m ρ K c ⟨0, by decide⟩ (recv_0 c).1 (recv_0 c).2) $$ HR HO HC
  iintro ⟨HO, HC⟩
  iapply (step_comm m ρ c ⟨0, by decide⟩ (by decide) (off9_is c ⟨0, by decide⟩ (a := 0#32) (b := 0#32) rfl rfl)) $$ HC
  iintro HC
  iapply wpc_done
  iapply Hk $$ HO HS HC

theorem part14 (v2 v387 : BitVec 32) (Q : PUnit → sProp 𝕄) :
    records m ρ K ⊢ iprop(ow (F := F) c 0 -∗ recvSt m ρ c 1 -∗ xgSt m ρ c 0
      -∗ (ow (F := F) c 0 -∗ recvSt m ρ c 4 -∗ xgSt m ρ c 3 -∗ Q ⟨⟩)
      -∗ wpc c (k0_part14 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v387 (k0_pay23 (commBlk m ρ c (pr c ⟨0, by decide⟩)))) Q) := by
  simp only [k0_part14_eq_skeleton]; unfold k0_part14_skel
  simp only [semSignalWord, semWaitWord, Prog.lift, Prog.bind_op, Prog.bind_ret, Prog.pure_eq_ret, choose_eq]
  iintro #HR HO HC HX Hk
  iapply (step_xg_dead m ρ c 0) $$ HX
  iintro %_ HX
  iapply (step_xg m ρ c ⟨0, by decide⟩ (off := ![0, 0, 0]) rfl (cast_twice _)) $$ HX
  iintro HX
  iapply (step_recv m ρ K c ⟨1, by decide⟩ (recv_1 c).1 (recv_1 c).2) $$ HR HO HC
  iintro ⟨HO, HC⟩
  iapply (step_gather m ρ c ⟨1, by decide⟩ (by decide) (off9_is c ⟨1, by decide⟩ (a := 0#32) (b := 1#32) rfl rfl) (off' := ![0, 0, 128]) rfl cast_twice) $$ HC HX
  iintro HC HX
  iapply (step_recv m ρ K c ⟨2, by decide⟩ (recv_2 c).1 (recv_2 c).2) $$ HR HO HC
  iintro ⟨HO, HC⟩
  iapply (step_gather m ρ c ⟨2, by decide⟩ (by decide) (off9_is c ⟨2, by decide⟩ (a := 0#32) (b := 2#32) rfl rfl) (off' := ![0, 0, 256]) rfl cast_twice) $$ HC HX
  iintro HC HX
  iapply (step_recv m ρ K c ⟨3, by decide⟩ (recv_3 c).1 (recv_3 c).2) $$ HR HO HC
  iintro ⟨HO, HC⟩
  iapply wpc_done
  iapply Hk $$ HO HC HX

theorem part15 (v2 v3 : BitVec 32) (acc : FVec F S128x2048 .f32) (Q : (Σ' (v443 : FVec F S128x2048 .f32) (v446 : BitVec 32), FVec F S1x128x128 .bf16) → sProp 𝕄) :
    records m ρ K ⊢ iprop(ow (F := F) c 0 -∗ recvSt m ρ c 4 -∗ xgSt m ρ c 3 -∗ wFly (F := F) c 0
      -∗ (∀ w, ow (F := F) c 0 -∗ recvSt m ρ c 5 -∗ xgSt m ρ c 4 -∗ wDone m c 0
        -∗ Q ⟨k0_pay28 acc (xgBlk m ρ c 0) (wBlk m c 0), w, k0_pay29 (commBlk m ρ c (pr c ⟨4, by decide⟩))⟩)
      -∗ wpc c (k0_part15 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v3 acc) Q) := by
  simp only [k0_part15_eq_skeleton]; unfold k0_part15_skel
  simp only [semSignalWord, semWaitWord, Prog.lift, Prog.bind_op, Prog.bind_ret, Prog.pure_eq_ret, choose_eq]
  iintro #HR HO HC HX HW Hk
  iapply (step_gather m ρ c ⟨3, by decide⟩ (by decide) (off9_is c ⟨3, by decide⟩ (a := 0#32) (b := 3#32) rfl rfl) (off' := ![0, 0, 384]) rfl cast_twice) $$ HC HX
  iintro HC HX
  iapply (step_w_wait m ρ K c 0 (wSem 0 rfl _)) $$ HR HO HW
  iintro ⟨HO, HW⟩
  iapply (step_xg_load m ρ c 0 (by decide) (off := ![0, 0, 0]) rfl) $$ HX
  iintro HX
  iapply (step_w_load m c 0 (off := ![0, 0, 0]) rfl) $$ HW
  iintro HW
  iapply (step_recv m ρ K c ⟨4, by decide⟩ (recv_4 c).1 (recv_4 c).2) $$ HR HO HC
  iintro ⟨HO, HC⟩
  iapply (step_comm m ρ c ⟨4, by decide⟩ (by decide) (off9_is c ⟨4, by decide⟩ (a := 1#32) (b := 0#32) rfl rfl)) $$ HC
  iintro HC
  iapply (step_xg_dead m ρ c 4) $$ HX
  iintro %_ HX
  iapply wpc_done
  iapply Hk $$ HO HC HX HW

theorem part16 (v2 v446 : BitVec 32) (Q : FVec F S128x128 .bf16 → sProp 𝕄) :
    records m ρ K ⊢ iprop(ow (F := F) c 0 -∗ recvSt m ρ c 5 -∗ xgSt m ρ c 4
      -∗ (ow (F := F) c 0 -∗ recvSt m ρ c 8 -∗ xgSt m ρ c 7 -∗ Q (k0_pay32 (commBlk m ρ c (pr c ⟨7, by decide⟩))))
      -∗ wpc c (k0_part16 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v446 (k0_pay29 (commBlk m ρ c (pr c ⟨4, by decide⟩)))) Q) := by
  simp only [k0_part16_eq_skeleton]; unfold k0_part16_skel
  simp only [semSignalWord, semWaitWord, Prog.lift, Prog.bind_op, Prog.bind_ret, Prog.pure_eq_ret, choose_eq]
  iintro #HR HO HC HX Hk
  iapply (step_xg m ρ c ⟨4, by decide⟩ (off := ![1, 0, 0]) rfl (cast_twice _)) $$ HX
  iintro HX
  iapply (step_recv m ρ K c ⟨5, by decide⟩ (recv_5 c).1 (recv_5 c).2) $$ HR HO HC
  iintro ⟨HO, HC⟩
  iapply (step_gather m ρ c ⟨5, by decide⟩ (by decide) (off9_is c ⟨5, by decide⟩ (a := 1#32) (b := 1#32) rfl rfl) (off' := ![1, 0, 128]) rfl cast_twice) $$ HC HX
  iintro HC HX
  iapply (step_recv m ρ K c ⟨6, by decide⟩ (recv_6 c).1 (recv_6 c).2) $$ HR HO HC
  iintro ⟨HO, HC⟩
  iapply (step_gather m ρ c ⟨6, by decide⟩ (by decide) (off9_is c ⟨6, by decide⟩ (a := 1#32) (b := 2#32) rfl rfl) (off' := ![1, 0, 256]) rfl cast_twice) $$ HC HX
  iintro HC HX
  iapply (step_recv m ρ K c ⟨7, by decide⟩ (recv_7 c).1 (recv_7 c).2) $$ HR HO HC
  iintro ⟨HO, HC⟩
  iapply (step_comm m ρ c ⟨7, by decide⟩ (by decide) (off9_is c ⟨7, by decide⟩ (a := 1#32) (b := 3#32) rfl rfl)) $$ HC
  iintro HC
  iapply wpc_done
  iapply Hk $$ HO HC HX

theorem part17 (v2 v3 : BitVec 32) (acc : FVec F S128x2048 .f32) (Q : (Σ' (v502 : FVec F S128x2048 .f32) (v505 : BitVec 32), BitVec 32) → sProp 𝕄) :
    records m ρ K ⊢ iprop(ow (F := F) c 0 -∗ recvSt m ρ c 8 -∗ xgSt m ρ c 7 -∗ wFly (F := F) c 1
      -∗ (∀ w w', ow (F := F) c 0 -∗ recvSt m ρ c 9 -∗ xgSt m ρ c 9 -∗ wDone m c 1
        -∗ Q ⟨k0_pay34 acc (xgBlk m ρ c 1) (wBlk m c 1), w, w'⟩)
      -∗ wpc c (k0_part17 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v3 acc (k0_pay32 (commBlk m ρ c (pr c ⟨7, by decide⟩)))) Q) := by
  simp only [k0_part17_eq_skeleton]; unfold k0_part17_skel
  simp only [semSignalWord, semWaitWord, Prog.lift, Prog.bind_op, Prog.bind_ret, Prog.pure_eq_ret, choose_eq]
  iintro #HR HO HC HX HW Hk
  iapply (step_xg_dead m ρ c 7) $$ HX
  iintro %_ HX
  iapply (step_xg m ρ c ⟨7, by decide⟩ (off := ![1, 0, 384]) rfl (cast_twice _)) $$ HX
  iintro HX
  iapply (step_w_wait m ρ K c 1 (wSem 1 rfl _)) $$ HR HO HW
  iintro ⟨HO, HW⟩
  iapply (step_xg_load m ρ c 1 (by decide) (off := ![1, 0, 0]) rfl) $$ HX
  iintro HX
  iapply (step_w_load m c 1 (off := ![1, 0, 0]) rfl) $$ HW
  iintro HW
  iapply (step_recv m ρ K c ⟨8, by decide⟩ (recv_8 c).1 (recv_8 c).2) $$ HR HO HC
  iintro ⟨HO, HC⟩
  iapply (step_gather m ρ c ⟨8, by decide⟩ (by decide) (off9_is c ⟨8, by decide⟩ (a := 2#32) (b := 0#32) rfl rfl) (off' := ![2, 0, 0]) rfl cast_twice) $$ HC HX
  iintro HC HX
  iapply wpc_done
  iapply Hk $$ HO HC HX HW

theorem part18 (v2 v505 v518 : BitVec 32) (Q : PUnit → sProp 𝕄) :
    records m ρ K ⊢ iprop(ow (F := F) c 0 -∗ recvSt m ρ c 9 -∗ xgSt m ρ c 9
      -∗ (ow (F := F) c 0 -∗ recvSt m ρ c 12 -∗ xgSt m ρ c 12 -∗ Q ⟨⟩)
      -∗ wpc c (k0_part18 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v505 v518) Q) := by
  simp only [k0_part18_eq_skeleton]; unfold k0_part18_skel
  simp only [semSignalWord, semWaitWord, Prog.lift, Prog.bind_op, Prog.bind_ret, Prog.pure_eq_ret, choose_eq]
  iintro #HR HO HC HX Hk
  iapply (step_recv m ρ K c ⟨9, by decide⟩ (recv_9 c).1 (recv_9 c).2) $$ HR HO HC
  iintro ⟨HO, HC⟩
  iapply (step_gather m ρ c ⟨9, by decide⟩ (by decide) (off9_is c ⟨9, by decide⟩ (a := 2#32) (b := 1#32) rfl rfl) (off' := ![2, 0, 128]) rfl cast_twice) $$ HC HX
  iintro HC HX
  iapply (step_recv m ρ K c ⟨10, by decide⟩ (recv_10 c).1 (recv_10 c).2) $$ HR HO HC
  iintro ⟨HO, HC⟩
  iapply (step_gather m ρ c ⟨10, by decide⟩ (by decide) (off9_is c ⟨10, by decide⟩ (a := 2#32) (b := 2#32) rfl rfl) (off' := ![2, 0, 256]) rfl cast_twice) $$ HC HX
  iintro HC HX
  iapply (step_recv m ρ K c ⟨11, by decide⟩ (recv_11 c).1 (recv_11 c).2) $$ HR HO HC
  iintro ⟨HO, HC⟩
  iapply (step_gather m ρ c ⟨11, by decide⟩ (by decide) (off9_is c ⟨11, by decide⟩ (a := 2#32) (b := 3#32) rfl rfl) (off' := ![2, 0, 384]) rfl cast_twice) $$ HC HX
  iintro HC HX
  iapply wpc_done
  iapply Hk $$ HO HC HX

theorem part19 (v2 v3 : BitVec 32) (acc : FVec F S128x2048 .f32) (Q : (Σ' (v561 : FVec F S128x2048 .f32) (v564 : BitVec 32), BitVec 32) → sProp 𝕄) :
    records m ρ K ⊢ iprop(ow (F := F) c 0 -∗ recvSt m ρ c 12 -∗ xgSt m ρ c 12 -∗ wFly (F := F) c 2
      -∗ (∀ w w', ow (F := F) c 0 -∗ recvSt m ρ c 14 -∗ xgSt m ρ c 13 -∗ wDone m c 2
        -∗ Q ⟨k0_pay39 acc (xgBlk m ρ c 2) (wBlk m c 2), w, w'⟩)
      -∗ wpc c (k0_part19 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v3 acc) Q) := by
  simp only [k0_part19_eq_skeleton]; unfold k0_part19_skel
  simp only [semSignalWord, semWaitWord, Prog.lift, Prog.bind_op, Prog.bind_ret, Prog.pure_eq_ret, choose_eq]
  iintro #HR HO HC HX HW Hk
  iapply (step_w_wait m ρ K c 2 (wSem 2 rfl _)) $$ HR HO HW
  iintro ⟨HO, HW⟩
  iapply (step_xg_load m ρ c 2 (by decide) (off := ![2, 0, 0]) rfl) $$ HX
  iintro HX
  iapply (step_w_load m c 2 (off := ![2, 0, 0]) rfl) $$ HW
  iintro HW
  iapply (step_recv m ρ K c ⟨12, by decide⟩ (recv_12 c).1 (recv_12 c).2) $$ HR HO HC
  iintro ⟨HO, HC⟩
  iapply (step_gather m ρ c ⟨12, by decide⟩ (by decide) (off9_is c ⟨12, by decide⟩ (a := 3#32) (b := 0#32) rfl rfl) (off' := ![3, 0, 0]) rfl cast_twice) $$ HC HX
  iintro HC HX
  iapply (step_recv m ρ K c ⟨13, by decide⟩ (recv_13 c).1 (recv_13 c).2) $$ HR HO HC
  iintro ⟨HO, HC⟩
  iapply wpc_done
  iapply Hk $$ HO HC HX HW

theorem part20 (v2 v564 v577 : BitVec 32) (Q : PUnit → sProp 𝕄) :
    records m ρ K ⊢ iprop(ow (F := F) c 0 -∗ recvSt m ρ c 14 -∗ xgSt m ρ c 13
      -∗ (ow (F := F) c 0 -∗ recvSt m ρ c 16 -∗ xgSt m ρ c 16 -∗ Q ⟨⟩)
      -∗ wpc c (k0_part20 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v564 v577) Q) := by
  simp only [k0_part20_eq_skeleton]; unfold k0_part20_skel
  simp only [semSignalWord, semWaitWord, Prog.lift, Prog.bind_op, Prog.bind_ret, Prog.pure_eq_ret, choose_eq]
  iintro #HR HO HC HX Hk
  iapply (step_gather m ρ c ⟨13, by decide⟩ (by decide) (off9_is c ⟨13, by decide⟩ (a := 3#32) (b := 1#32) rfl rfl) (off' := ![3, 0, 128]) rfl cast_twice) $$ HC HX
  iintro HC HX
  iapply (step_recv m ρ K c ⟨14, by decide⟩ (recv_14 c).1 (recv_14 c).2) $$ HR HO HC
  iintro ⟨HO, HC⟩
  iapply (step_gather m ρ c ⟨14, by decide⟩ (by decide) (off9_is c ⟨14, by decide⟩ (a := 3#32) (b := 2#32) rfl rfl) (off' := ![3, 0, 256]) rfl cast_twice) $$ HC HX
  iintro HC HX
  iapply (step_recv m ρ K c ⟨15, by decide⟩ (recv_15 c).1 (recv_15 c).2) $$ HR HO HC
  iintro ⟨HO, HC⟩
  iapply (step_gather m ρ c ⟨15, by decide⟩ (by decide) (off9_is c ⟨15, by decide⟩ (a := 3#32) (b := 3#32) rfl rfl) (off' := ![3, 0, 384]) rfl cast_twice) $$ HC HX
  iintro HC HX
  iapply wpc_done
  iapply Hk $$ HO HC HX

/-! ## The result, and waiting for the sends -/

theorem part21 (v2 : BitVec 32) (acc : FVec F S128x2048 .f32) (f : S128x2048.Idx → Elt F .f32) (Q : BitVec 32 → sProp 𝕄) :
    records m ρ K ⊢ iprop(ow (F := F) c 0 -∗ xgSt m ρ c 16 -∗ wFly (F := F) c 3 -∗ oPts c f -∗ sentSt m ρ c 0
      -∗ (∀ w, ow (F := F) c 0 -∗ xgSt m ρ c 16 -∗ wDone m c 3 -∗ oPts c (k0_pay44 acc (xgBlk m ρ c 3) (wBlk m c 3)) -∗ sentSt m ρ c 2 -∗ Q w)
      -∗ wpc c (k0_part21 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 acc) Q) := by
  simp only [k0_part21_eq_skeleton]; unfold k0_part21_skel
  simp only [semSignalWord, semWaitWord, Prog.lift, Prog.bind_op, Prog.bind_ret, Prog.pure_eq_ret]
  iintro #HR HO HX HW Ho HT Hk
  iapply (step_w_wait m ρ K c 3 (wSem 3 rfl _)) $$ HR HO HW
  iintro ⟨HO, HW⟩
  iapply (step_xg_load m ρ c 3 (by decide) (off := ![3, 0, 0]) rfl) $$ HX
  iintro HX
  iapply (step_w_load m c 3 (off := ![3, 0, 0]) rfl) $$ HW
  iintro HW
  iapply (step_out c f (k0_pay44 acc (xgBlk m ρ c 3) (wBlk m c 3))) $$ Ho
  iintro Ho
  iapply (step_sent m ρ K c ⟨0, by decide⟩ (sSem c 0 rfl _)) $$ HR HO HT
  iintro ⟨HO, HT⟩
  iapply (step_sent m ρ K c ⟨1, by decide⟩ (sSem c 1 rfl _)) $$ HR HO HT
  iintro ⟨HO, HT⟩
  iapply wpc_done
  iapply Hk $$ HO HX HW Ho HT

theorem part22 (v2 v640 : BitVec 32) (Q : PUnit → sProp 𝕄) :
    records m ρ K ⊢ iprop(ow (F := F) c 0 -∗ sentSt m ρ c 2 -∗ (ow (F := F) c 0 -∗ sentSt m ρ c 5 -∗ Q ⟨⟩) -∗ wpc c (k0_part22 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2 v640) Q) := by
  simp only [k0_part22_eq_skeleton]; unfold k0_part22_skel
  simp only [semSignalWord, semWaitWord, Prog.lift, Prog.bind_op, Prog.bind_ret, Prog.pure_eq_ret]
  iintro #HR HO HT Hk
  iapply (step_sent m ρ K c ⟨2, by decide⟩ (sSem c 2 rfl _)) $$ HR HO HT
  iintro ⟨HO, HT⟩
  iapply (step_sent m ρ K c ⟨3, by decide⟩ (sSem c 3 rfl _)) $$ HR HO HT
  iintro ⟨HO, HT⟩
  iapply (step_sent m ρ K c ⟨4, by decide⟩ (sSem c 4 rfl _)) $$ HR HO HT
  iintro ⟨HO, HT⟩
  iapply wpc_done
  iapply Hk $$ HO HT

theorem part23 (v2 : BitVec 32) (Q : PUnit → sProp 𝕄) :
    records m ρ K ⊢ iprop(ow (F := F) c 0 -∗ sentSt m ρ c 5 -∗ (ow (F := F) c 0 -∗ sentSt m ρ c 9 -∗ Q ⟨⟩) -∗ wpc c (k0_part23 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part23_eq_skeleton]; unfold k0_part23_skel
  simp only [semSignalWord, semWaitWord, Prog.lift, Prog.bind_op, Prog.bind_ret, Prog.pure_eq_ret]
  iintro #HR HO HT Hk
  iapply (step_sent m ρ K c ⟨5, by decide⟩ (sSem c 5 rfl _)) $$ HR HO HT
  iintro ⟨HO, HT⟩
  iapply (step_sent m ρ K c ⟨6, by decide⟩ (sSem c 6 rfl _)) $$ HR HO HT
  iintro ⟨HO, HT⟩
  iapply (step_sent m ρ K c ⟨7, by decide⟩ (sSem c 7 rfl _)) $$ HR HO HT
  iintro ⟨HO, HT⟩
  iapply (step_sent m ρ K c ⟨8, by decide⟩ (sSem c 8 rfl _)) $$ HR HO HT
  iintro ⟨HO, HT⟩
  iapply wpc_done
  iapply Hk $$ HO HT

theorem part24 (v2 : BitVec 32) (Q : PUnit → sProp 𝕄) :
    records m ρ K ⊢ iprop(ow (F := F) c 0 -∗ sentSt m ρ c 9 -∗ (ow (F := F) c 0 -∗ sentSt m ρ c 13 -∗ Q ⟨⟩) -∗ wpc c (k0_part24 xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6 c v2) Q) := by
  simp only [k0_part24_eq_skeleton]; unfold k0_part24_skel
  simp only [semSignalWord, semWaitWord, Prog.lift, Prog.bind_op, Prog.bind_ret, Prog.pure_eq_ret]
  iintro #HR HO HT Hk
  iapply (step_sent m ρ K c ⟨9, by decide⟩ (sSem c 9 rfl _)) $$ HR HO HT
  iintro ⟨HO, HT⟩
  iapply (step_sent m ρ K c ⟨10, by decide⟩ (sSem c 10 rfl _)) $$ HR HO HT
  iintro ⟨HO, HT⟩
  iapply (step_sent m ρ K c ⟨11, by decide⟩ (sSem c 11 rfl _)) $$ HR HO HT
  iintro ⟨HO, HT⟩
  iapply (step_sent m ρ K c ⟨12, by decide⟩ (sSem c 12 rfl _)) $$ HR HO HT
  iintro ⟨HO, HT⟩
  iapply wpc_done
  iapply Hk $$ HO HT

end Cert.Exchange

end
-- ==== Proof.Body.lean ====
/-
# The body of the kernel

From what a device holds at the start of the kernel to what it holds at its end, the parts in their order.
-/
module

public import proofs.«01_k».proof.Proof.Gather

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Between the phases -/

/-- All signals sent, a device owes its blocks only. -/
theorem signalled : sigSt (F := F) c 15 ⊢ ow (F := F) c (oRecv c 1) := by
  unfold sigSt
  rw [oBar_end, add_zero]
  iintro ⟨HO, -⟩
  iexact HO

/-- What the receive steps need: the own block, the positions, and the credit for the others' blocks. -/
theorem recv_ready : iprop(commPts c c.val (commVal m ρ c) ∗ (bigSep (Finset.univ : Finset (Fin 16)) fun j => atPos ER (recvCell c j) 0 ∅ 0)
    ∗ bigSep (Finset.univ.erase c) fun j => cred (tallyAt (recvCell c j) () N)) ⊢ recvSt m ρ c 0 := by
  unfold recvSt
  rw [mix_zero, ← around_peers c (recvTodo m ρ c)]
  unfold recvTodo
  rw [bigSep_sep', bigSep_univ_at (fun j : Fin 16 => if j = c then commPts c j.val (commVal m ρ c) else cred (tallyAt (recvCell c j) () N)) c, if_pos rfl,
    bigSep_congr (s := Finset.univ.erase c) (Φ := fun j : Fin 16 => if j = c then commPts c j.val (commVal m ρ c) else cred (tallyAt (recvCell c j) () N))
      (Ψ := fun j => cred (tallyAt (recvCell c j) () N)) fun j hj => if_neg (Finset.ne_of_mem_erase hj)]
  iintro ⟨Hc, Hat, Hcr⟩
  isplitl [Hat]; · iexact Hat
  isplitl [Hc] <;> iassumption

/-- What waiting for the sends needs. -/
theorem sent_ready : iprop(bigSep Finset.univ (sendFly (F := F) c) ∗ bigSep (Finset.univ : Finset (Fin 15)) fun k => atPos ER (sendCell c (sh c (k.val + 1))) 0 ∅ 0)
    ⊢ sentSt m ρ c 0 := by
  unfold sentSt
  rw [mix_zero, ← bigSep_sep']
  exact .rfl

/-- The gathered operand before anything is in it. -/
theorem xg_ready : iprop(∃ f : Buf (Elt F) ((c : Thread nD τ).loc cc0_scratch3), ((c : Thread nD τ).loc cc0_scratch3) ↦{fullShare} f) ⊢ xgSt m ρ c 0 := by
  unfold xgSt
  iintro ⟨%f, H⟩
  iexists f
  isplitr
  · ipureintro; intro i h; exact absurd h (Nat.not_lt_zero _)
  · iexact H

/-! ## The body -/

theorem wpc_seq {α β : Type} (p : Prog (TpuEff nD τ sig (Elt F) Λ₀ .tc) α) (k : α → Prog (TpuEff nD τ sig (Elt F) Λ₀ .tc) β) (Q : β → sProp 𝕄) :
    wpc c (p >>= k) Q = wpc c p fun a => wpc c (k a) Q := wpc_bind c p k Q

/-- The kernel's result on device `c`: the four groups' products added up in the device's order, and the negative part cut off. -/
def outAt : S128x2048.Idx → Elt F .f32 :=
  k0_pay44 (k0_pay39 (k0_pay34 (k0_pay28 k0_pay22 (xgBlk m ρ c 0) (wBlk m c 0)) (xgBlk m ρ c 1) (wBlk m c 1)) (xgBlk m ρ c 2) (wBlk m c 2))
    (xgBlk m ρ c 3) (wBlk m c 3)

/-- What device `c` holds at the start, besides the records and the levels. -/
def bodyIn (f : S128x2048.Idx → Elt F .f32) : sProp 𝕄 :=
  iprop((wIdle m c 0 ∗ wIdle m c 1 ∗ wIdle m c 2 ∗ wIdle m c 3) ∗ sigSt (F := F) c 0 ∗ xPts m ρ c ∗ fillSt m ρ c 0 ∗ (∃ f, commPts (F := F) c c.val f)
    ∗ cred (tallyAt (barCell c) () 15) ∗ atPos ER (barCell c) 0 ∅ 0 ∗ sendToks (F := F) c
    ∗ (bigSep (Finset.univ : Finset (Fin 16)) fun j => atPos ER (recvCell c j) 0 ∅ 0)
    ∗ (bigSep (Finset.univ.erase c) fun j => cred (tallyAt (recvCell c j) () N))
    ∗ (∃ f : Buf (Elt F) ((c : Thread nD τ).loc cc0_scratch3), ((c : Thread nD τ).loc cc0_scratch3) ↦{fullShare} f)
    ∗ (bigSep (Finset.univ : Finset (Fin 15)) fun k => atPos ER (sendCell c (sh c (k.val + 1))) 0 ∅ 0)
    ∗ atPos ER (sendCell c c) 0 ∅ 0 ∗ oPts c f)

/-- What it holds at the end: every buffer and every semaphore it started with, the semaphores at zero, and the result. -/
def bodyOut : sProp 𝕄 :=
  iprop(ow (F := F) c 0 ∗ xPts m ρ c ∗ oPts c (outAt m ρ c) ∗ (wDone m c 0 ∗ wDone m c 1 ∗ wDone m c 2 ∗ wDone m c 3)
    ∗ recvSt m ρ c 16 ∗ xgSt m ρ c 16 ∗ sentSt m ρ c 15 ∗ sendPts c c.val (sendVal m ρ c) ∗ semVal (sendCell c c) 0 ∗ semVal (barCell c) 0)

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24

theorem body_run (f : S128x2048.Idx → Elt F .f32) (Q : PUnit → sProp 𝕄) :
    records m ρ K ⊢ iprop(levAts L lv -∗ bodyIn m ρ c f -∗ (bodyOut m ρ c -∗ Q ⟨⟩)
      -∗ wpc c (cc0_body xM (Memref.isWhole_whole _) wM (Memref.isWhole_whole _) oM (Memref.isWhole_whole _) sendM (Memref.isWhole_whole _)
        commM (Memref.isWhole_whole _) wbufM (Memref.isWhole_whole _) xgM (Memref.isWhole_whole _) cc0_scratch4 cc0_scratch5 cc0_scratch6) Q) := by
  simp only [cc0_body_eq_skeleton]; unfold cc0_body_skel bodyIn
  iintro #HR #Hlev ⟨⟨HW0, HW1, HW2, HW3⟩, HG, Hx, HF, Hc, HcB, HaB, Htk, HaR, HcR, Hxg, HaS, HaSS, Ho⟩ Hk
  rw [wpc_seq]
  iapply (part1 m ρ K c _) $$ HR HW0 HW1
  iintro %v2 %v3 HW0 HW1
  dsimp only
  rw [wpc_seq]
  iapply (part2 m ρ K c v2 v3 _) $$ HR HW2 HW3 HG
  iintro %v54 HW2 HW3 HG
  dsimp only
  rw [wpc_seq]
  iapply (part3 m ρ K c v2 v54 _) $$ HR HG
  iintro %v78 HG
  rw [wpc_seq]
  iapply (part4 m ρ K c v2 v78 _) $$ HR HG Hx
  iintro HG Hx
  rw [wpc_seq]
  iapply (part5 m ρ c _) $$ HF Hx
  iintro HF Hx
  rw [wpc_seq]
  iapply (part6 m ρ c _) $$ HF Hx
  iintro HF Hx
  rw [wpc_seq]
  iapply (part7 m ρ c _) $$ HF Hx
  iintro HF Hx
  ihave HO := (signalled c) $$ HG
  rw [wpc_seq]
  iapply (part8 m ρ K c v2 _) $$ HR Hlev HF Hc HcB HaB HO Htk
  iintro Hss Hc HzB HS
  rw [wpc_seq]
  iapply (part9 m ρ K c v2 _) $$ HR HS
  iintro HS
  rw [wpc_seq]
  iapply (part10 m ρ K c v2 _) $$ HR HS
  iintro HS
  rw [wpc_seq]
  iapply (part11 m ρ K c v2 _) $$ HR HS
  iintro HS
  rw [wpc_seq]
  iapply (part12 m ρ K c v2 _) $$ HR HS
  iintro %v361 %v362 HS
  ihave HC := (recv_ready m ρ c) $$ [Hc HaR HcR]
  · isplitl [Hc]; · iexact Hc
    isplitl [HaR] <;> iassumption
  dsimp only
  rw [wpc_seq]
  iapply (part13 m ρ K c v2 v3 v361 v362 _) $$ HR HS HC
  iintro %v387 HO HT HC
  ihave HT := (sent_ready m ρ c) $$ [HT HaS]
  · isplitl [HT] <;> iassumption
  ihave HX := (xg_ready m ρ c) $$ Hxg
  dsimp only
  rw [wpc_seq]
  iapply (part14 m ρ K c v2 v387 _) $$ HR HO HC HX
  iintro HO HC HX
  rw [wpc_seq]
  iapply (part15 m ρ K c v2 v3 _ _) $$ HR HO HC HX HW0
  iintro %v446 HO HC HX HW0
  dsimp only
  generalize h1 : k0_pay28 (F := F) k0_pay22 (xgBlk m ρ c 0) (wBlk m c 0) = a1
  rw [wpc_seq]
  iapply (part16 m ρ K c v2 v446 _) $$ HR HO HC HX
  iintro HO HC HX
  rw [wpc_seq]
  iapply (part17 m ρ K c v2 v3 _ _) $$ HR HO HC HX HW1
  iintro %v505 %v518 HO HC HX HW1
  dsimp only
  generalize h2 : k0_pay34 (F := F) a1 (xgBlk m ρ c 1) (wBlk m c 1) = a2
  rw [wpc_seq]
  iapply (part18 m ρ K c v2 v505 v518 _) $$ HR HO HC HX
  iintro HO HC HX
  rw [wpc_seq]
  iapply (part19 m ρ K c v2 v3 _ _) $$ HR HO HC HX HW2
  iintro %v564 %v577 HO HC HX HW2
  dsimp only
  generalize h3 : k0_pay39 (F := F) a2 (xgBlk m ρ c 2) (wBlk m c 2) = a3
  rw [wpc_seq]
  iapply (part20 m ρ K c v2 v564 v577 _) $$ HR HO HC HX
  iintro HO HC HX
  rw [wpc_seq]
  iapply (part21 m ρ K c v2 _ f _) $$ HR HO HX HW3 Ho HT
  iintro %v640 HO HX HW3 Ho HT
  rw [wpc_seq]
  iapply (part22 m ρ K c v2 v640 _) $$ HR HO HT
  iintro HO HT
  rw [wpc_seq]
  iapply (part23 m ρ K c v2 _) $$ HR HO HT
  iintro HO HT
  rw [wpc_seq]
  iapply (part24 m ρ K c v2 _) $$ HR HO HT
  iintro HO HT
  simp only [Prog.lift, Prog.bind_op, Prog.bind_ret, Prog.pure_eq_ret]
  iapply (step_sent m ρ K c ⟨13, by decide⟩ (sSem c 13 rfl _)) $$ HR HO HT
  iintro ⟨HO, HT⟩
  iapply (step_sent m ρ K c ⟨14, by decide⟩ (sSem c 14 rfl _)) $$ HR HO HT
  iintro ⟨HO, HT⟩
  ihave HRs := (rec_send m ρ K c c) $$ HR
  icases HRs with ⟨#HI, -⟩
  rw [wpc_ret]
  imod (Rounds.cell_close ER (Rd m ρ) (Set.mem_univ (K (c, cSend c))) (fun h => h) (R := 0) (duties_self_send m ρ c)) $$ [HaSS] with HzS
  · isplitr; · iexact HI
    iexact HaSS
  imodintro
  iapply Hk
  unfold bodyOut outAt
  rw [h1, h2, h3]
  isplitl [HO]; · iexact HO
  isplitl [Hx]; · iexact Hx
  isplitl [Ho]; · iexact Ho
  isplitl [HW0 HW1 HW2 HW3]
  · isplitl [HW0]; · iexact HW0
    isplitl [HW1]; · iexact HW1
    isplitl [HW2] <;> iassumption
  isplitl [HC]; · iexact HC
  isplitl [HX]; · iexact HX
  isplitl [HT]; · iexact HT
  isplitl [Hss]; · iexact Hss
  isplitl [HzS] <;> iassumption

end Cert.Exchange

end
-- ==== Proof.Launch.lean ====
/-
# The launch

What each device is dealt at launch and gives back at the end: the exchange's cells with their invariants, its positions,
the tokens of the duties it pays and the credit of what the others owe it; its scratch buffers and its copy of `w`. From
these and the body the run of the whole mesh: it ends, with the result of each device and every semaphore at zero.
-/
module

public import proofs.«01_k».proof.Proof.Body
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- A device's own semaphores. -/
abbrev osem (o : Own) : SemLoc sig := .dma (dsem o)

theorem ownSemFacts : Pipeline.OwnSemFacts cfg0.spec osem := by decide

theorem csem_injective : Function.Injective csem := by
  rintro (o | ⟨⟩) (o' | ⟨⟩) h
  · exact congrArg Sum.inl (dsem_injective (SemLoc.dma.inj h))
  · exact absurd h (by unfold csem; exact fun e => by cases e)
  · exact absurd h (by unfold csem; exact fun e => by cases e)
  · rfl

/-- A cell is on one device, so equal cells have equal devices and equal semaphores. -/
theorem gsem_inj {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩

theorem kcell_injective : Function.Injective (kcell : Dev nD × Cell → GSem nD τ sig) := by
  rintro ⟨c, k⟩ ⟨c', k'⟩ h
  obtain ⟨h1, h2⟩ := gsem_inj h
  exact Prod.ext h1 (csem_injective h2)

def allCells : Finset (GSem nD τ sig) := Finset.univ.map ⟨kcell, kcell_injective⟩

/-- Who pays a transfer cell of device `c`. -/
def payer (c : Dev nD) : Own → Dev nD
  | .inl (.inl _) => c
  | .inl (.inr j) => j
  | .inr _ => c

/-- The duties of device `c`'s cells: one of the barrier for each device, one of each transfer cell. -/
abbrev Duty : Type := Dev nD ⊕ Own
def tokOf (cx : Dev nD × Duty) : GSem nD τ sig × ℕ × Dev nD := match cx.2 with
  | .inl p => (barCell cx.1, 0, p)
  | .inr o => (((cx.1 : Thread nD τ), .dma (dsem o)), 0, payer cx.1 o)

theorem tokOf_injective : Function.Injective tokOf := by
  rintro ⟨c, p | o⟩ ⟨c', p' | o'⟩ h
  · have h1 := (gsem_inj (congrArg Prod.fst h)).1
    have h2 : p = p' := congrArg (fun x : GSem nD τ sig × ℕ × Dev nD => x.2.2) h
    subst h1; subst h2; rfl
  · exact absurd (gsem_inj (congrArg Prod.fst h)).2 (fun e => by cases e)
  · exact absurd (gsem_inj (congrArg Prod.fst h)).2 (fun e => by cases e)
  · obtain ⟨h1, h2⟩ := gsem_inj (congrArg Prod.fst h)
    subst h1
    rw [dsem_injective (SemLoc.dma.inj h2)]

def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of device `c`'s own cells. -/
def minted (c : Dev nD) : sProp 𝕄 :=
  iprop((bigSep (Finset.univ : Finset (Dev nD)) fun p => dutyTok ER (barCell c) 0 p)
    ∗ ((bigSep (Finset.univ : Finset (Fin 16)) fun d => dutyTok ER (sendCell c d) 0 c) ∗ (bigSep (Finset.univ : Finset (Fin 16)) fun j => dutyTok ER (recvCell c j) 0 j))
    ∗ bigSep (Finset.univ : Finset (Fin 4)) fun t => dutyTok ER (wCell c t) 0 c)

/-- The tokens device `c` pays with. -/
def payToks (c : Dev nD) : sProp 𝕄 :=
  iprop((bigSep (Finset.univ : Finset (Fin 15)) fun k => dutyTok ER (barCell (sh c (k.val + 1))) 0 c) ∗ sendToks (F := F) c
    ∗ bigSep (Finset.univ : Finset (Fin 4)) fun t => dutyTok ER (wCell c t) 0 c)

theorem first (P Q : sProp 𝕄) : iprop(P ∗ Q) ⊢ P := by
  iintro ⟨H, -⟩
  iexact H
theorem second (P Q : sProp 𝕄) : iprop(P ∗ Q) ⊢ Q := by
  iintro ⟨-, H⟩
  iexact H

/-- One row of a square table and one column, without the diagonal. -/
theorem column (A : Dev nD → Dev nD → sProp 𝕄) :
    (bigSep (Finset.univ : Finset (Dev nD)) fun c => bigSep (Finset.univ : Finset (Dev nD)) fun p => A c p)
      ⊢ bigSep (Finset.univ : Finset (Dev nD)) fun p => bigSep (Finset.univ : Finset (Fin 15)) fun k => A (sh p (k.val + 1)) p := by
  rw [bigSep_univ_comm]
  refine bigSep_mono fun p _ => ?_
  rw [bigSep_univ_at _ p, around_others p fun c => A c p]
  exact second _ _

theorem row (A : Dev nD → Dev nD → sProp 𝕄) :
    (bigSep (Finset.univ : Finset (Dev nD)) fun c => bigSep (Finset.univ : Finset (Dev nD)) fun d => A c d)
      ⊢ bigSep (Finset.univ : Finset (Dev nD)) fun c => bigSep (Finset.univ : Finset (Fin 15)) fun k => A c (sh c (k.val + 1)) := by
  refine bigSep_mono fun c _ => ?_
  rw [bigSep_univ_at _ c, around_others c fun d => A c d]
  exact second _ _

/-- The tokens from their cells' devices to the devices that pay with them. -/
theorem toks_dealt : (bigSep Finset.univ fun c : Dev nD => (minted c : sProp 𝕄)) ⊢ bigSep Finset.univ fun c : Dev nD => (payToks c : sProp 𝕄) := by
  unfold minted payToks sendToks
  rw [bigSep_sep', bigSep_sep', bigSep_sep', bigSep_sep', bigSep_sep']
  iintro ⟨HB, ⟨HS, HR⟩, HW⟩
  ihave HB := (column fun c p => (dutyTok ER (barCell c) 0 p : sProp 𝕄)) $$ HB
  ihave HR := (column fun c p => (dutyTok ER (recvCell c p) 0 p : sProp 𝕄)) $$ HR
  ihave HS := (row fun c d => (dutyTok ER (sendCell c d) 0 c : sProp 𝕄)) $$ HS
  isplitl [HB]; · iexact HB
  isplitr [HW]
  · simp only [bigSep_sep']
    isplitl [HS] <;> iassumption
  · iexact HW

/-! ## What the launch deals -/

def G (c : Dev nD) : sProp 𝕄 :=
  iprop((bigSep Finset.univ fun k : Cell => roundState ER (Rd m ρ) (kcell (c, k)) 0)
    ∗ (bigSep Finset.univ fun k : Cell => reached ER (kcell (c, k)) 0) ∗ (bigSep Finset.univ fun k : Cell => atPos ER (kcell (c, k)) 0 ∅ 0) ∗ minted c)

/-- A device's positions and the tokens it pays with. -/
def linear (c : Dev nD) : sProp 𝕄 :=
  iprop((bigSep Finset.univ fun k : Cell => atPos ER (kcell (c, k)) 0 ∅ 0) ∗ payToks c)
def G' (c : Dev nD) : sProp 𝕄 := iprop(∃ K, records m ρ K ∗ linear c)

theorem by_device (A : GSem nD τ sig → sProp 𝕄) :
    bigSep allCells A = bigSep Finset.univ fun c : Dev nD => bigSep Finset.univ fun k : Cell => A (kcell (c, k)) := by
  unfold allCells; rw [bigSep_map, bigSep_univ_prod]; rfl

theorem toks_by_device : bigSep allToks (fun x => (dutyTok ER x.1 x.2.1 x.2.2 : sProp 𝕄)) = bigSep Finset.univ fun c : Dev nD => minted c := by
  unfold allToks
  rw [bigSep_map, bigSep_univ_prod]
  refine bigSep_congr fun c _ => ?_
  rw [bigSep_univ_sum, bigSep_univ_sum, bigSep_univ_sum]
  rfl

theorem fund_cells : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (by_device fun g => roundState ER (Rd m ρ) g 0)) $$ Hst
  ihave Hr := (Entails.of_eq (by_device fun g => reached ER g 0)) $$ Hr
  ihave Hat := (Entails.of_eq (by_device fun g => atPos ER g 0 ∅ 0)) $$ Hat
  ihave Htok := (Entails.of_eq toks_by_device) $$ Htok
  unfold G; simp only [bigSep_sep']
  isplitl [Hst]; · iexact Hst
  isplitl [Hr]; · iexact Hr
  isplitl [Hat] <;> iassumption

/-- The barrier is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem unit_sep (A : Unit → sProp 𝕄) : bigSep Finset.univ A = A () := bigSep_univ_eq_bigSepL [()] (by decide) (by decide) A

theorem sems0 (c : Dev nD) : iprop(Pipeline.ownSems0 (Ix := Unit) (Name := ℕ) (U := UU) (Lvl := ℕ) (Val := Elt F) (τ := τ) osem c ∗ unscopedSems0 c)
    = (bigSep Finset.univ fun k : Cell => semVal (kcell (c, k)) 0 : sProp 𝕄) := by
  rw [unscopedSems0_eq, bigSep_univ_sum, unit_sep]; rfl

/-- A device's cells opened: their invariants allocated from the counters and the round states. -/
theorem cells_open (c : Dev nD) :
    iprop((bigSep Finset.univ fun k : Cell => semVal (kcell (c, k)) 0) ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

theorem device_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => reached ER (kcell (c, k)) 0) ∗ (bigSep Finset.univ fun k : Cell => atPos ER (kcell (c, k)) 0 ∅ 0) ∗ minted c) := by
  unfold G
  iintro ⟨Hos, Hus, Hst, Hr, Hat, Htok⟩
  ihave Hv := (Entails.of_eq (sems0 (F := F) c)) $$ [Hos Hus]
  · isplitl [Hos] <;> iassumption
  imod (cells_open m ρ c) $$ [Hv Hst] with HI
  · isplitl [Hv] <;> iassumption
  imodintro
  isplitl [HI]; · iexact HI
  isplitl [Hr]; · iexact Hr
  isplitl [Hat] <;> iassumption

/-- One choice of names for the whole mesh, every device given the records of all cells and the tokens it pays with. -/
theorem mesh_open :
    (bigSep Finset.univ fun c : Dev nD => iprop((bigSep Finset.univ fun k : Cell => iprop(∃ κ : ℕ, cellInv ER (Rd m ρ) κ (kcell (c, k))))
          ∗ (bigSep Finset.univ fun k : Cell => reached ER (kcell (c, k)) 0) ∗ (bigSep Finset.univ fun k : Cell => atPos ER (kcell (c, k)) 0 ∅ 0) ∗ minted c) : sProp 𝕄)
      ⊢ bigSep Finset.univ (G' m ρ) := by
  rw [bigSep_sep', bigSep_sep', bigSep_sep', ← bigSep_univ_prod (fun ck : Dev nD × Cell => iprop(∃ κ : ℕ, cellInv ER (Rd m ρ) κ (kcell ck))),
    ← bigSep_univ_prod (fun ck : Dev nD × Cell => (reached ER (kcell ck) 0 : sProp 𝕄))]
  iintro ⟨HI, #HR, Hat, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htok := (toks_dealt (F := F)) $$ Htok
  iapply (bigSep_with_persistent (R := records m ρ K) (Φ := fun c => (linear c : sProp 𝕄)) fun c _ => show iprop(records m ρ K ∗ linear c) ⊢ G' m ρ c from by
    unfold G'
    iintro H
    iexists K
    iexact H)
  isplitr
  · unfold records
    rw [bigSep_sep']
    isplitl <;> iassumption
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_open m ρ c).trans (bigSep_fupd _ _)).trans (BI.fupd_mono (mesh_open m ρ))

/-! ## The credit of what the others owe -/

/-- Of the fifteen places after `d`, one is `c`, unless `c` is `d`. -/
theorem one_place (c d : Dev nD) : (∑ k ∈ Finset.Ico 1 16, if c = sh d k then 1 else 0) = if d = c then 0 else 1 := by
  revert c d; decide

theorem place_mul (n : ℕ) (c d : Dev nD) (h : d ≠ c) : (∑ k ∈ Finset.Ico 1 16, if c = sh d k then n else 0) = n := by
  have h1 := congrArg (n * ·) (one_place c d)
  simp only [if_neg h, Nat.mul_one, Finset.mul_sum] at h1
  refine Eq.trans (Finset.sum_congr rfl fun k _ => ?_) h1
  split
  · exact (Nat.mul_one n).symm
  · rfl

theorem owed_bar (d c : Dev nD) : O₀ d (barCell c) () = if d = c then 0 else 1 := by
  unfold O₀ oRecv oBar
  rw [Pi.add_apply, Finsupp.add_apply, Finset.sum_apply, Finset.sum_apply, Finsupp.finset_sum_apply, Finsupp.finset_sum_apply, ← one_place c d,
    Finset.sum_eq_zero (s := Finset.Ico 1 16) (f := fun k => (tallyAt (recvCell (sh d k) d) () N : CellTallies nD τ sig Unit) (barCell c) ())
      fun k _ => by rw [tallyAt_apply, if_neg fun e => by cases (gsem_inj e.1).2], Nat.zero_add]
  refine Finset.sum_congr rfl fun k _ => ?_
  rw [tallyAt_apply]
  by_cases e : c = sh d k
  · rw [if_pos e, if_pos ⟨by rw [e], rfl⟩]
  · rw [if_neg e, if_neg fun h => e (gsem_inj h.1).1]

theorem owed_recv (d c j : Dev nD) (h : j ≠ c) : O₀ d (recvCell c j) () = if d = j then N else 0 := by
  unfold O₀ oRecv oBar
  rw [Pi.add_apply, Finsupp.add_apply, Finset.sum_apply, Finset.sum_apply, Finsupp.finset_sum_apply, Finsupp.finset_sum_apply,
    Finset.sum_eq_zero (s := Finset.Ico 1 16) (f := fun k => (tallyAt (barCell (sh d k)) () 1 : CellTallies nD τ sig Unit) (recvCell c j) ())
      fun k _ => by rw [tallyAt_apply, if_neg fun e => by cases (gsem_inj e.1).2], Nat.add_zero]
  by_cases e : d = j
  · subst e
    rw [if_pos rfl]
    refine Eq.trans (Finset.sum_congr rfl fun k _ => ?_) (place_mul N c d h)
    rw [tallyAt_apply]
    by_cases e : c = sh d k
    · rw [if_pos e, if_pos ⟨by rw [e], rfl⟩]
    · rw [if_neg e, if_neg fun h => e (gsem_inj h.1).1]
  · rw [if_neg e]
    refine Finset.sum_eq_zero fun k _ => ?_
    rw [tallyAt_apply, if_neg fun h => e ?_]
    have h2 := dsem_injective (SemLoc.dma.inj (gsem_inj h.1).2)
    injection h2 with h3; injection h3 with h4; exact h4.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => N, if_pos (Finset.mem_univ _)]

theorem recv_sem_injective : Function.Injective fun j : Fin 16 => (SemLoc.dma (dsem (ownRecv j)) : SemLoc sig) := fun a b h => by
  have h2 := dsem_injective (SemLoc.dma.inj h)
  injection h2 with h3; injection h3

theorem creds (c : Dev nD) : (Pipeline.launchCred O₀ c : sProp 𝕄)
    ⊢ iprop(cred (tallyAt (barCell c) () 15) ∗ bigSep (Finset.univ.erase c) fun j => cred (tallyAt (recvCell c j) () N)) := by
  unfold Pipeline.launchCred
  rw [bigSep_univ_at _ (SemLoc.reg barS), launch_bar]
  refine sep_mono_right ?_
  have hsub : (Finset.univ.erase c).map ⟨_, recv_sem_injective⟩ ⊆ (Finset.univ : Finset (SemLoc sig)).erase (SemLoc.reg barS) := fun s hs => by
    obtain ⟨j, _, rfl⟩ := Finset.mem_map.mp hs
    exact Finset.mem_erase.mpr ⟨(fun e => by cases e), Finset.mem_univ _⟩
  rw [BI.bigSep_sdiff_split hsub, bigSep_map]
  refine (first _ _).trans (bigSep_mono fun j hj => ?_)
  exact Entails.of_eq (congrArg (fun x => (cred x : sProp 𝕄)) (launch_recv c j (Finset.ne_of_mem_erase hj)))

end Cert.Exchange

end
-- ==== Proof.Run.lean ====
/-
# The run

A device's share of the launch is the body's start, and the body's end is a device's share of the exit. The body is so the
pipelined kernel's one point, and the mesh runs to its end: each device's result is `outAt`, its arguments are unchanged and
every semaphore is at zero.
-/
module

public import proofs.«01_k».proof.Proof.Launch
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers from their slots -/

theorem self_others (c : Dev nD) (A : Dev nD → sProp 𝕄) :
    bigSep Finset.univ A = iprop(A c ∗ bigSep (Finset.univ : Finset (Fin 15)) fun k => A (sh c (k.val + 1))) := by
  rw [bigSep_univ_at _ c, around_others]

/-- A property of each of a device's cells, by the kinds of cells. -/
theorem cells_split (c : Dev nD) (A : GSem nD τ sig → sProp 𝕄) :
    (bigSep Finset.univ fun k : Cell => A (kcell (c, k)))
      = iprop((((bigSep (Finset.univ : Finset (Fin 16)) fun d => A (sendCell c d)) ∗ bigSep (Finset.univ : Finset (Fin 16)) fun j => A (recvCell c j))
          ∗ bigSep (Finset.univ : Finset (Fin 4)) fun t => A (wCell c t)) ∗ A (barCell c)) := by
  rw [bigSep_univ_sum, bigSep_univ_sum, bigSep_univ_sum, unit_sep]; rfl

theorem exists_of {α : Type} (A : α → sProp 𝕄) (f : α) : A f ⊢ iprop(∃ f, A f) := by
  iintro H
  iexists f
  iexact H

theorem some_each {n : ℕ} {α : Type} (A : Fin n → α → sProp 𝕄) (f : α) :
    (bigSep Finset.univ fun t => A t f) ⊢ bigSep Finset.univ fun t => iprop(∃ f, A t f) :=
  bigSep_mono fun t _ => exists_of (A t) f

theorem four (A : Fin 4 → sProp 𝕄) : bigSep Finset.univ A = iprop(A 0 ∗ A 1 ∗ A 2 ∗ A 3) :=
  bigSep_univ_eq_bigSepL [0, 1, 2, 3] (by decide) (by decide) A

/-- A device's copy of `w`. -/
def wPts (c : Dev nD) : sProp 𝕄 := ((c : Thread nD τ).loc main_arg1) ↦{fullShare} m ((c : Thread nD τ).loc main_arg1)

/-- The scratch buffers, at contents that don't matter. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem w_idle (c : Dev nD) (f) :
    iprop((((c : Thread nD τ).loc cc0_scratch2) ↦{fullShare} f) ∗ wPts m c ∗ (bigSep (Finset.univ : Finset (Fin 4)) fun t => dutyTok ER (wCell c t) 0 c)
        ∗ (bigSep (Finset.univ : Finset (Fin 4)) fun t => atPos ER (wCell c t) 0 ∅ 0))
      ⊢ iprop(wIdle (F := F) m c 0 ∗ wIdle m c 1 ∗ wIdle m c 2 ∗ wIdle m c 3) := by
  rw [← four (fun t => wIdle (F := F) m c t)]
  unfold wIdle wPts
  rw [row_split, wbuf_split, bigSep_sep', bigSep_sep', bigSep_sep']
  iintro ⟨Hf, H⟩
  ihave Hf := (some_each (fun (t : Fin 4) f => wbufPts (F := F) c t.val f) f) $$ Hf
  isplitl [Hf] <;> iassumption

theorem w_done (c : Dev nD) :
    iprop(wDone (F := F) m c 0 ∗ wDone m c 1 ∗ wDone m c 2 ∗ wDone m c 3)
      ⊢ iprop((((c : Thread nD τ).loc cc0_scratch2) ↦{fullShare} wVal m c) ∗ wPts m c ∗ (bigSep (Finset.univ : Finset (Fin 4)) fun t => semVal (wCell c t) 0)) := by
  rw [← four (fun t => wDone (F := F) m c t)]
  unfold wDone wPts
  rw [row_split, wbuf_split, bigSep_sep', bigSep_sep']

theorem sig_start (c : Dev nD) (f) :
    iprop((((c : Thread nD τ).loc cc0_scratch1) ↦{fullShare} f) ∗ ow c (O₀ c) ∗ (bigSep (Finset.univ : Finset (Fin 15)) fun k => dutyTok ER (barCell (sh c (k.val + 1))) 0 c))
      ⊢ iprop(sigSt (F := F) c 0 ∗ (∃ f, commPts c c.val f)) := by
  unfold sigSt sigTodo barPay
  rw [mix_zero, comm_split, self_others c fun d => commPts c d.val f, bigSep_sep']
  iintro ⟨⟨Hc, Hf⟩, HO, HT⟩
  ihave Hf := (some_each (fun (k : Fin 15) f => commPts (F := F) c (sh c (k.val + 1)).val f) f) $$ Hf
  isplitr [Hc]
  · isplitl [HO]; · iexact HO
    isplitl [HT] <;> iassumption
  · iexists f; iexact Hc

theorem fill_start (c : Dev nD) (f) : (((c : Thread nD τ).loc cc0_scratch0) ↦{fullShare} f : sProp 𝕄) ⊢ fillSt m ρ c 0 := by
  unfold fillSt
  rw [mix_zero, send_split]
  exact some_each (fun (d : Fin 16) f => sendPts (F := F) c d.val f) f

/-- A device's share of the launch is what its body starts from. -/
theorem entry (c : Dev nD) (f : S128x2048.Idx → Elt F .f32) :
    iprop(linear c ∗ (cred (tallyAt (barCell c) () 15) ∗ bigSep (Finset.univ.erase c) fun j => cred (tallyAt (recvCell c j) () N)) ∗ wPts m c ∗ scratch c
        ∗ ow c (O₀ c) ∗ xPts m ρ c ∗ oPts c f) ⊢ bodyIn m ρ c f := by
  unfold linear payToks scratch bodyIn
  rw [cells_split c fun g => (atPos ER g 0 ∅ 0 : sProp 𝕄), self_others c fun d => (atPos ER (sendCell c d) 0 ∅ 0 : sProp 𝕄)]
  iintro ⟨⟨⟨⟨⟨⟨HPc, HPs⟩, HPr⟩, HPw⟩, HPb⟩, HTb, HTs, HTw⟩, ⟨HCb, HCr⟩, HW, ⟨⟨%f0, H0⟩, ⟨%f1, H1⟩, ⟨%f2, H2⟩, H3⟩, HO, HX, HY⟩
  ihave Hw := (w_idle m c f2) $$ [H2 HW HTw HPw]
  · isplitl [H2]; · iexact H2
    isplitl [HW]; · iexact HW
    isplitl [HTw] <;> iassumption
  ihave Hs := (sig_start (F := F) c f1) $$ [H1 HO HTb]
  · isplitl [H1]; · iexact H1
    isplitl [HO] <;> iassumption
  icases Hs with ⟨Hs, Hc⟩
  ihave Hf := (fill_start m ρ c f0) $$ H0
  isplitl [Hw]; · iexact Hw
  isplitl [Hs]; · iexact Hs
  isplitl [HX]; · iexact HX
  isplitl [Hf]; · iexact Hf
  isplitl [Hc]; · iexact Hc
  isplitl [HCb]; · iexact HCb
  isplitl [HPb]; · iexact HPb
  isplitl [HTs]; · iexact HTs
  isplitl [HPr]; · iexact HPr
  isplitl [HCr]; · iexact HCr
  isplitl [H3]; · iexact H3
  isplitl [HPs]; · iexact HPs
  isplitl [HPc] <;> iassumption

theorem recv_end (c : Dev nD) : recvSt m ρ c 16
    ⊢ iprop((((c : Thread nD τ).loc cc0_scratch1) ↦{fullShare} commVal m ρ c) ∗ bigSep (Finset.univ : Finset (Fin 16)) fun j => semVal (recvCell c j) 0) := by
  unfold recvSt
  rw [mix_all, ← around_peers c fun j => recvDone m ρ c j, comm_split]
  unfold recvDone
  rw [bigSep_sep']

theorem sent_end (c : Dev nD) : iprop(sentSt m ρ c 15 ∗ sendPts c c.val (sendVal m ρ c) ∗ semVal (sendCell c c) 0)
    ⊢ iprop((((c : Thread nD τ).loc cc0_scratch0) ↦{fullShare} sendVal m ρ c) ∗ bigSep (Finset.univ : Finset (Fin 16)) fun d => semVal (sendCell c d) 0) := by
  unfold sentSt
  rw [mix_all, send_split, self_others c fun d => sendPts c d.val (sendVal m ρ c), self_others c fun d => (semVal (sendCell c d) 0 : sProp 𝕄)]
  unfold sentDone
  rw [bigSep_sep']
  iintro ⟨⟨H1, H2⟩, H3, H4⟩
  isplitl [H1 H3]
  · isplitl [H3] <;> iassumption
  · isplitl [H4] <;> iassumption

/-- After the run: the copy of `w`, the semaphores at zero, the scratch buffers. -/
def ended (c : Dev nD) : sProp 𝕄 :=
  iprop(wPts m c ∗ (Pipeline.ownSems0 (Ix := Unit) (Name := ℕ) (U := UU) (Lvl := ℕ) (Val := Elt F) (τ := τ) osem c ∗ unscopedSems0 c) ∗ scratch c)

/-- What the body ends with is a device's share of the exit. -/
theorem exit (c : Dev nD) : bodyOut m ρ c ⊢ iprop(ow c 0 ∗ xPts m ρ c ∗ oPts c (outAt m ρ c) ∗ ended m c) := by
  unfold bodyOut ended scratch
  rw [sems0, cells_split c fun g => (semVal g 0 : sProp 𝕄)]
  iintro ⟨HO, HX, HY, HW, HR, HG, HS, Hc, HSc, HB⟩
  ihave HW := (w_done (F := F) m c) $$ HW
  icases HW with ⟨H2, HW, HVw⟩
  ihave HR := (recv_end m ρ c) $$ HR
  icases HR with ⟨H1, HVr⟩
  ihave HS := (sent_end m ρ c) $$ [HS Hc HSc]
  · isplitl [HS]; · iexact HS
    isplitl [Hc] <;> iassumption
  icases HS with ⟨H0, HVs⟩
  unfold xgSt
  icases HG with ⟨%f, -, H3⟩
  isplitl [HO]; · iexact HO
  isplitl [HX]; · iexact HX
  isplitl [HY]; · iexact HY
  isplitl [HW]; · iexact HW
  isplitl [HVs HVr HVw HB]
  · isplitr [HB]
    · isplitr [HVw]
      · isplitl [HVs] <;> iassumption
      · iexact HVw
    · iexact HB
  isplitl [H0]; · iexists _; iexact H0
  isplitl [H1]; · iexists _; iexact H1
  isplitl [H2]; · iexists _; iexact H2
  iexists f; iexact H3

/-! ## The pipelined kernel -/

/-- What device `c`'s body starts from, besides its windows. -/
def Φ₀ (c : Dev nD) : sProp 𝕄 :=
  iprop((G' m ρ c ∗ (cred (tallyAt (barCell c) () 15) ∗ bigSep (Finset.univ.erase c) fun j => cred (tallyAt (recvCell c j) () N)) ∗ levAts L lv ∗ wPts m c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => ended m c
  q _ := fullShare
  owed t := match t with
    | ⟨0, _⟩ => O₀ c
    | ⟨_ + 1, _⟩ => 0

theorem before_x (c : Dev nD) (d) : (dats m ρ 0 c).before (0 : Fin 2) t0_0 d = xstg m ρ c := by
  unfold Dat.before; rw [if_pos (fetch0_0 t0_0)]; rfl

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Before the body: the launch's share, what is owed, the window of `x` fetched, the window of the result at any contents. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- After it: the exit's share, nothing owed, the windows of `x` and of the result. -/
def bodyPost (c : Dev nD) : sProp 𝕄 :=
  iprop(ended m c ∗ (dats m ρ 0 c).owesAt () t0_0.succ ∗ stg c cc0_stg0_0 (xstg m ρ c) ∗ stg c cc0_stg1_0 (outAt m ρ c))

theorem post_intro (c : Dev nD) : bodyOut m ρ c ⊢ bodyPost m ρ c := by
  refine (exit m ρ c).trans ?_
  unfold bodyPost Dat.owesAt Pipeline.owesWithin ow xPts oPts
  rw [show (dats m ρ 0 c).owed t0_0.succ = 0 from rfl]
  iintro ⟨⟨%W, HO⟩, HX, HY, HE⟩
  isplitl [HE]; · iexact HE
  isplitl [HO]
  · iexists W
    isplitr; · ipureintro; exact fun _ _ => Or.inl trivial
    iexact HO
  isplitl [HX]
  · iexists _; isplitr; · (ipureintro; rfl)
    iexact HX
  iexists _; isplitr; · (ipureintro; rfl)
  iexact HY

theorem body_sound (c : Dev nD) : bodyPre m ρ c
    ⊢ wpc c (cc0_body xM (Memref.isWhole_whole _) wM (Memref.isWhole_whole _) oM (Memref.isWhole_whole _) sendM (Memref.isWhole_whole _) commM (Memref.isWhole_whole _)
        wbufM (Memref.isWhole_whole _) xgM (Memref.isWhole_whole _) cc0_scratch4 cc0_scratch5 cc0_scratch6) (fun _ => bodyPost m ρ c) := by
  unfold bodyPre Φ₀ G' Dat.owesAt Pipeline.owesWithin
  rw [show (dats m ρ 0 c).owed t0_0.castSucc = O₀ c from rfl]
  iintro ⟨⟨⟨⟨%K, #HK, Hl⟩, HC, #HL, HW⟩, HS⟩, ⟨%W, -, HO⟩, ⟨%d, %g0, %hg0, HX⟩, ⟨%d1, %g1, %hg1, HY⟩⟩
  have hx : g0 = xstg m ρ c := by rw [hg0]; exact before_x m ρ c d
  subst hx
  ihave HI := (entry m ρ c g1) $$ [Hl HC HW HS HO HX HY]
  · isplitl [Hl]; · iexact Hl
    isplitl [HC]; · iexact HC
    isplitl [HW]; · iexact HW
    isplitl [HS]; · iexact HS
    isplitl [HO]; · unfold ow; iexists W; iexact HO
    isplitl [HX]
    · unfold xPts; iexact HX
    · unfold oPts; iexact HY
  iapply (body_run m ρ K c g1 (fun _ => bodyPost m ρ c)) $$ HK HL HI
  iintro H
  iapply (post_intro m ρ c) $$ H

theorem both_windows (Φ : Fin cfg0.W → sProp 𝕄) : bigSep Finset.univ Φ = iprop(Φ (0 : Fin 2) ∗ Φ (1 : Fin 2)) := bigSep_W0 Φ

attribute [local irreducible] cc0_body

set_option maxRecDepth 4000 in
/-- The pipelined kernel's one point. -/
theorem body_obligation (c : Dev nD) : BodyObligation (dats (F := F) m ρ 0 c) (defs₀ (F := F)) 𝒱₀ () Set.univ := fun t => by
  rw [show t = t0_0 from fin_N0 t]
  rw [both_windows, both_windows]
  simp only [owns_stg]
  show bodyPre m ρ c ⊢ wp frame (wpE (defs₀ (F := F)) 𝒱₀ c none) Set.univ
    (cc0_body xM (Memref.isWhole_whole _) wM (Memref.isWhole_whole _) oM (Memref.isWhole_whole _) sendM (Memref.isWhole_whole _) commM (Memref.isWhole_whole _)
      wbufM (Memref.isWhole_whole _) xgM (Memref.isWhole_whole _) cc0_scratch4 cc0_scratch5 cc0_scratch6) (fun _ => bodyPost m ρ c)
  exact body_sound m ρ c

/-! ## The theorem's side conditions -/

theorem share_eq (c : Dev nD) (w : Fin cfg0.W) : (dats m ρ 0 c).share w = fullShare := by unfold Dat.share; split <;> rfl

/-- A device's share at its start. -/
def start (c : Dev nD) : sProp 𝕄 :=
  iprop(G' m ρ c ∗ (cred (tallyAt (barCell c) () 15) ∗ bigSep (Finset.univ.erase c) fun j => cred (tallyAt (recvCell c j) () N)) ∗ levAts L lv ∗ wPts m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨HW, Hlev, Hcr, -, HG⟩
  ihave HC := (creds (F := F) c) $$ Hcr
  ihave HW := (show (Pipeline.unscopedRestP Pipeline.Prefetch.none cfg0.spec c (fun b => m ((c : Thread nD τ).loc b)) : sProp 𝕄) ⊢ wPts m c from
    Entails.of_eq (unscopedRest0_eq c (fun b => m ((c : Thread nD τ).loc b)))) $$ HW
  imodintro
  unfold start
  isplitl
  · isplitl [HG]; · iexact HG
    isplitl [HC]; · iexact HC
    isplitl [Hlev] <;> iassumption
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start scratch
  iintro ⟨Hs, -, Hr⟩
  isplitl [Hs] <;> iassumption

theorem phi_last (c : Dev nD) :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = ended m c from rfl, scopedRest0_eq]
  unfold ended scratch
  iintro ⟨HW, ⟨Ho, Hu⟩, Hr⟩
  isplitl [HW Hu]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the exit the memory still holds a device's copy of `w`, and its barrier is at zero. -/
theorem read_exit (c : Dev nD) (s' : Phys nD τ sig (Elt F)) :
    iprop((unscopedSems0 c ∗ wPts m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') := by
  iintro ⟨⟨Hu, HW⟩, -, HSI⟩
  ihave %h1 := (tcUnscoped_read c s') $$ [Hu HSI]
  · isplitl [Hu] <;> iassumption
  unfold wPts
  ihave H := (pointsTo_read_all ({()} : Finset Unit) (fun _ => (c : Thread nD τ).loc main_arg1) (fun _ => m ((c : Thread nD τ).loc main_arg1)) s') $$ [HW HSI]
  · isplitl [HW]
    · rw [bigSep_singleton]; iexact HW
    · iexact HSI
  icases H with ⟨%h2, HSI⟩
  imodintro
  isplitr; · ipureintro; exact ⟨h1, h2 () (Finset.mem_singleton_self _)⟩
  iexact HSI

/-! ## The run -/

/-- What a window's array holds after the run. -/
def finalA (c : Dev nD) (w : Fin cfg0.W) : Buf (Elt F) ((cfg0.win w).arr.view.loc (c : Thread nD τ)) := (dats m ρ 0 c).arrAt w cfg0.N

/-- After the run: every window's array as computed, and the copies of `w` unchanged. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values and from any memory with its counters at zero, the mesh of sixteen devices runs to its end: the
    arrays are as computed, the arguments unchanged and every semaphore is at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ wPts m c)) (Z := fun _ => iprop(emp))
    (hX := start_intro m ρ) (hin := phi_first m ρ) (hout := phi_last m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_exit m)
    (hQ := fun _ h hs => ⟨fun c => ⟨(h c).1, (h c).2.2.2⟩, sem_eq_zero hs fun c => (h c).2.2.1⟩)

/-- A device's block of `x` is unchanged. -/
theorem final_x (c : Dev nD) : finalA m ρ c (0 : Fin 2) = (s₀ m ρ).mem (win0_0.arr.view.loc (c : Thread nD τ)) :=
  (dats m ρ 0 c).arrAt_in (0 : Fin 2) rfl _

/-- A device's result is what its body computes. -/
theorem final_out (c : Dev nD) : (win0_1.blk (0 : Fin 1)).view.read (Elt F) (finalA m ρ c (1 : Fin 2)) = outAt m ρ c := by
  unfold finalA
  rw [show cfg0.N = t0_0.val + 1 from N_0, (dats m ρ 0 c).arrAt_succ (1 : Fin 2) t0_0, if_pos (flush0_1 t0_0)]
  exact View.read_write_univ _ _

end Cert.Exchange

end
-- ==== Proof.Value.lean ====
/-
# The values

Over the extended reals: what a device computes is its block of rows of the product of the whole `x` by `w`, clipped at
zero. Each turn's product is the part of the contraction over one group of 512 columns of `x`, and the four groups, in
whatever order a device takes them, are the whole contraction.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Idealize.SL.Sem

/-! ## The arrays, read whole -/

section Whole
variable {F : FTy → Type} [FloatOps F] (m : (ℓ : Loc nD τ sig) → Buf (Elt F) ℓ) (ρ : Dev nD → PrngReg)

/-- The window of `x` is a device's whole array. -/
theorem xstg_eq (c : Dev nD) : xstg m ρ c = m ((c : Thread nD τ).loc main_arg0) := by
  unfold xstg
  exact Memref.read_access_unit_zero (Elt F) main_arg0 (off := fun a => win0_0.index (0 : Fin 1) a * main_arg0.ty.shape.size a) (funext fun a => Nat.zero_mul _) _ _

/-- The window of the result is a device's whole array. -/
theorem final_result (c : Dev nD) : finalA m ρ c (1 : Fin 2) = outAt m ρ c := by
  rw [← final_out]
  exact (Memref.read_access_unit_zero (Elt F) main_v1 (off := fun a => win0_1.index (0 : Fin 1) a * main_v1.ty.shape.size a) (funext fun a => Nat.zero_mul _) _ _).symm

end Whole

/-! ## One turn -/

theorem dot_plain : dot_S128x512_S512x2048_S128x2048_1_0_0_1_n_n = DotDims.plain 128 512 2048 := rfl

/-- A turn adds, at each place of the result, the products along the turn's 512 columns. -/
theorem turn (acc : FVec Ideal S128x2048 .f32) (xb : FVec Ideal S1x128x512 .bf16) (wb : FVec Ideal S1x512x2048 .f32) (r : Fin 128) (q : Fin 2048) :
    addf acc (matmul dot_S128x512_S512x2048_S128x2048_1_0_0_1_n_n none (shapeCast S128x512 xb shapeCasts_S1x128x512_S128x512 : FVec Ideal S128x512 .bf16)
        (truncf .bf16 (shapeCast S512x2048 wb shapeCasts_S1x512x2048_S512x2048 : FVec Ideal S512x2048 .f32) bitsLt_bf16_f32 : FVec Ideal S512x2048 .bf16) (constant S128x2048 .f32 0x00000000#32)) (ix2 r q)
      = acc (ix2 r q) + ∑ k : Fin 512, (xb (ix3 (0 : Fin 1) r k) : EReal) * wb (ix3 (0 : Fin 1) k q) := by
  rw [addf_apply]
  refine congrArg (acc (ix2 r q) + ·) ?_
  rw [dot_plain]
  refine (Ideal.matmul_plain_apply none _ _ _ r q).trans ?_
  rw [constant_apply, Ideal.ofBits_zero_f32, zero_add]
  refine Finset.sum_congr rfl fun k _ => ?_
  rw [truncf_apply, shapeCast_1ab_ab_apply, shapeCast_1ab_ab_apply]

/-! ## What a turn takes, in the whole arrays -/

section Claim
variable (m : (ℓ : Loc nD τ sig) → Buf (Elt Ideal) ℓ) (ρ : Dev nD → PrngReg)
variable (X W : S2048x2048.Idx → EReal)

/-- Row `r` of the gathered operand at turn `t` is row `128 c + r` of the whole `x`, from column `512 g` on. -/
theorem xg_at (hX : ∀ c : Dev nD, m ((c : Thread nD τ).loc main_arg0) = Layout.block ⟨2, ![2048, 128]⟩ ⟨2, ![2048, 2048]⟩ 1 16 c X)
    (c : Dev nD) (t : Fin 4) (r : Fin 128) (k : Fin 512) (i j : Fin 2048) (hi : i.val = 128 * c.val + r.val) (hj : j.val = 512 * grp c t.val + k.val) :
    (xgBlk m ρ c t (ix3 (0 : Fin 1) r k) : EReal) = X (ix2 i j) := by
  show (xstg m ρ (⟨peer c t.val (k.val / 128), _⟩ : Fin 16) (ix2 (⟨128 * c.val + r.val, _⟩ : Fin 2048) (⟨k.val % 128, _⟩ : Fin 128)) : EReal) = _
  rw [xstg_eq, hX, Layout.block_apply]
  refine congrArg X (funext fun a => Fin.ext ?_)
  match a with
  | ⟨0, _⟩ => exact hi.symm
  | ⟨1, _⟩ =>
    show (4 * grp c t.val + k.val / 128) * 128 + k.val % 128 = j.val
    omega

/-- Row `k` of `w` at turn `t` is row `512 g + k` of it. -/
theorem w_at (hW : ∀ c : Dev nD, m ((c : Thread nD τ).loc main_arg1) = W) (c : Dev nD) (t : Fin 4) (k : Fin 512) (q j : Fin 2048)
    (hj : j.val = 512 * grp c t.val + k.val) : (wBlk m c t (ix3 (0 : Fin 1) k q) : EReal) = W (ix2 j q) := by
  show (m ((c : Thread nD τ).loc main_arg1) (ix2 (⟨512 * grp c t.val + k.val, _⟩ : Fin 2048) q) : EReal) = _
  rw [hW]
  exact congrArg (fun a : Fin 2048 => W (ix2 a q)) (Fin.ext hj.symm)

/-! ## The contraction, by groups -/

/-- A sum over 2048 places is the sum over four groups of 512, taken in any device's order. -/
theorem by_groups (c : Dev nD) (f : Fin 2048 → EReal) :
    ∑ j, f j = ∑ t : Fin 4, ∑ k : Fin 512, f ⟨512 * grp c t.val + k.val, by have := grp_lt c t.val; omega⟩ := by
  have hb : Function.Bijective fun t : Fin 4 => (⟨grp c t.val, grp_lt c t.val⟩ : Fin 4) := by revert c; decide
  rw [← (Equiv.sum_comp (finProdFinEquiv (m := 4) (n := 512)) f), Fintype.sum_prod_type]
  refine (Equiv.sum_comp (Equiv.ofBijective _ hb) fun g => ∑ k : Fin 512, f (finProdFinEquiv (g, k))).symm.trans ?_
  refine Finset.sum_congr rfl fun t _ => Finset.sum_congr rfl fun k _ => congrArg f (Fin.ext ?_)
  show k.val + 512 * grp c t.val = 512 * grp c t.val + k.val
  omega

/-- What the reference computes of the whole arrays. -/
def product : S2048x2048.Idx → EReal :=
  maximumf (F := Ideal) (Host.dotGeneral (F := Ideal) (φ₁ := .f32) (φ₂ := .f32) Cert.ReferenceIdeal.dot_S2048x2048_S2048x2048_S2048x2048_1_0_0_1_n_n none X W)
    (broadcastInDim Cert.ReferenceIdeal.S2048x2048 ![] Cert.ReferenceIdeal.Gen.bcast_S_S2048x2048 (constant (F := Ideal) Cert.ReferenceIdeal.S_ .f32 0x00000000#32))

theorem product_at (i q : Fin 2048) : product X W (ix2 i q) = max (∑ j : Fin 2048, X (ix2 i j) * W (ix2 j q)) (Ideal.ofBits .f32 0x00000000#32) :=
  congrArg (fun y : EReal => max y (Ideal.ofBits .f32 0x00000000#32)) (StackMember.dotGeneral_plain_apply (φ₁ := .f32) (φ₂ := .f32) none X W i q)

/-- A device's result is its block of rows of the reference's. -/
theorem result_eq (hX : ∀ c : Dev nD, m ((c : Thread nD τ).loc main_arg0) = Layout.block ⟨2, ![2048, 128]⟩ ⟨2, ![2048, 2048]⟩ 1 16 c X)
    (hW : ∀ c : Dev nD, m ((c : Thread nD τ).loc main_arg1) = W) (c : Dev nD) :
    outAt m ρ c = Layout.block ⟨2, ![128, 2048]⟩ ⟨2, ![2048, 2048]⟩ 0 16 c (product X W) := by
  refine funext fun (x : S128x2048.Idx) => ?_
  obtain ⟨r, q, rfl⟩ : ∃ (r : Fin 128) (q : Fin 2048), x = ix2 r q := ⟨x 0, x 1, eq_ix2 x⟩
  have hc : c.val < 16 := c.isLt
  let i : Fin 2048 := ⟨128 * c.val + r.val, by have := r.isLt; omega⟩
  have hR : Layout.block ⟨2, ![128, 2048]⟩ ⟨2, ![2048, 2048]⟩ 0 16 c (product X W) (by decide) (ix2 r q) = product X W (ix2 i q) := by
    rw [Layout.block_apply]
    refine congrArg (product X W) (funext fun a => Fin.ext ?_)
    match a with
    | ⟨0, _⟩ => show c.val * 128 + r.val = 128 * c.val + r.val; omega
    | ⟨1, _⟩ => rfl
  refine Eq.trans ?_ hR.symm
  rw [product_at, by_groups c, Fin.sum_univ_four]
  unfold outAt k0_pay44
  refine congrArg (fun y : EReal => max y (Ideal.ofBits .f32 0x00000000#32)) ?_
  have step (acc : FVec Ideal S128x2048 .f32) (t : Fin 4) :
      (addf acc (matmul dot_S128x512_S512x2048_S128x2048_1_0_0_1_n_n none (shapeCast S128x512 (xgBlk m ρ c t) shapeCasts_S1x128x512_S128x512 : FVec Ideal S128x512 .bf16)
        (truncf .bf16 (shapeCast S512x2048 (wBlk m c t) shapeCasts_S1x512x2048_S512x2048 : FVec Ideal S512x2048 .f32) bitsLt_bf16_f32 : FVec Ideal S512x2048 .bf16) (constant S128x2048 .f32 0x00000000#32)) (ix2 r q) : EReal)
      = acc (ix2 r q) + ∑ k : Fin 512, X (ix2 i ⟨512 * grp c t.val + k.val, by have := grp_lt c t.val; omega⟩) * W (ix2 ⟨512 * grp c t.val + k.val, by have := grp_lt c t.val; omega⟩ q) := by
    refine (turn acc (xgBlk m ρ c t) (wBlk m c t) r q).trans (congrArg (acc (ix2 r q) + ·) (Finset.sum_congr rfl fun k _ => ?_))
    rw [xg_at m ρ X hX c t r k i ⟨512 * grp c t.val + k.val, by have := grp_lt c t.val; omega⟩ rfl rfl,
      w_at m W hW c t k q ⟨512 * grp c t.val + k.val, by have := grp_lt c t.val; omega⟩ rfl]
  refine (step _ 3).trans (congrArg (· + _) ?_)
  refine (step _ 2).trans (congrArg (· + _) ?_)
  refine (step _ 1).trans (congrArg (· + _) ?_)
  refine (step _ 0).trans ?_
  rw [show (k0_pay22 (F := Ideal) (ix2 r q) : EReal) = 0 from Ideal.ofBits_zero_f32, zero_add]

end Claim

/-! ## The kernel's run, read at its arrays -/

/-- For any float values the mesh runs to its end with each device's result as computed, its arguments unchanged and every
    semaphore at zero. -/
theorem run_read {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (final_result m ρ c), ((h.1 c).1 (0 : Fin 2)).trans (final_x m ρ c), (h.1 c).2⟩, h.2⟩)
    (run_main m ρ)

end Cert.Exchange

end
-- ==== Proof.lean ====
/- The five claims about the all-to-all fused with a product and a relu: the frames of the kernel (over words and over the
   extended reals) and of the reference, and that the kernel's results are the reference's blocks of rows. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two kernels' body tables, over words, are the same: their one body is. -/
theorem bodies : Cert.Kernel.defs₀ (F := Bits) = Cert.KernelIdeal.defs₀ (F := Bits) := by
  refine congrArg Defs.onTc ?_
  funext l x
  match l, x with
  | 0, (t, s) => rfl

/-- So are the tables with the pipeline's regions added. -/
theorem tables : Cert.Kernel.defs (F := Bits) = Cert.KernelIdeal.defs (F := Bits) :=
  congrArg (Pipeline.defs (Cert.KernelIdeal.pcfgs (F := Bits))) bodies

/-- The kernel on sixteen devices runs to its end, its arguments unchanged and every semaphore at zero: the run over any
    float values, at the bit patterns. -/
theorem frame_kernel : Cert.quiescent_Kernel := fun m ρ _ => by
  have h := (θ_run (Cert.KernelIdeal.defs (F := Bits)) _ _).mono (Q := fun r => _) (fun _ h => And.intro (fun c => (h.1 c).2) h.2) (Cert.Exchange.run_read (F := Bits) m ρ)
  rw [← tables] at h
  exact h

/-- The same at the extended reals. -/
theorem frame_kernelIdeal : Cert.quiescent_KernelIdeal := fun m ρ _ =>
  (θ_run Cert.KernelIdeal.defs _ _).mono (fun _ h => ⟨fun c => (h.1 c).2, h.2⟩) (Cert.Exchange.run_read (F := Ideal) m ρ)

/-- The reference has no semaphore, so its run ends with all of them at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- The kernel's results are the blocks of rows of the reference's result. -/
theorem value : Cert.algebraic_KernelIdeal_ReferenceIdeal := fun m ρ m' ρ' _ h =>
  ⟨Cert.Exchange.product (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono
      (fun _ r c => ⟨(r.1 c).1.trans (Cert.Exchange.result_eq m ρ _ _ (fun c => (h c).1) (fun c => (h c).2) c), (r.1 c).2⟩) (Cert.Exchange.run_read (F := Ideal) m ρ),
    (θ_run Cert.ReferenceIdeal.defs _ _).mono (fun _ r => ⟨(r 0).1, (r 0).2⟩) (Cert.ReferenceIdeal.Value.run (F := Ideal) m' ρ')⟩

/-- All the claims, after the side conditions of the three programs. -/
theorem claim : Cert.Claim :=
  ⟨Cert.Kernel.Gen.facts, Cert.KernelIdeal.Gen.facts, Cert.ReferenceIdeal.Gen.facts, frame_kernel, frame_kernelIdeal, frame_reference, trivial, value⟩

end Cert.Proof

end
